-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_fit [hPre_scores_fit : Cert.Pre_scores_fit.Facts] (m : (ℓ : Loc Cert.KernelIdeal.nD Cert.KernelIdeal.τ Cert.KernelIdeal.sig) → Buf (Elt Ideal) ℓ) : Prop :=
  ∀ c : Dev Cert.KernelIdeal.nD,
    (Cert.Pre_scores_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_fit [hPre_scores_fit : Cert.Pre_scores_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_fit [hKernelIdeal : Cert.KernelIdeal.Facts] [hPre_scores_fit : Cert.Pre_scores_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_fit [hReferenceIdeal : Cert.ReferenceIdeal.Facts] [hPre_scores_fit : Cert.Pre_scores_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S640x64 Cert.KernelIdeal.S320x64

def algebraic_KernelIdeal_ReferenceIdeal_pre_scores_fit [hKernelIdeal : Cert.KernelIdeal.Facts] [hReferenceIdeal : Cert.ReferenceIdeal.Facts] [hPre_scores_fit : Cert.Pre_scores_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scores_fit : Cert.Pre_scores_fit.Facts),
    quiescent_Kernel (hKernel := hKernel)
    ∧ quiescent_KernelIdeal (hKernelIdeal := hKernelIdeal)
    ∧ quiescent_KernelIdeal_pre_scores_fit (hKernelIdeal := hKernelIdeal) (hPre_scores_fit := hPre_scores_fit)
    ∧ quiescent_ReferenceIdeal (hReferenceIdeal := hReferenceIdeal)
    ∧ quiescent_ReferenceIdeal_pre_scores_fit (hReferenceIdeal := hReferenceIdeal) (hPre_scores_fit := hPre_scores_fit)
    ∧ preserves_Kernel_KernelIdeal
    ∧ algebraic_KernelIdeal_ReferenceIdeal_pre_scores_fit (hKernelIdeal := hKernelIdeal) (hReferenceIdeal := hReferenceIdeal) (hPre_scores_fit := hPre_scores_fit)
-- ==== Pre_scores_fit.lean ====
abbrev S3x32x640x64 : Shape := ⟨4, ![3, 32, 640, 64]⟩
abbrev S3x32x640 : Shape := ⟨3, ![3, 32, 640]⟩
abbrev S3x32 : Shape := ⟨2, ![3, 32]⟩
abbrev S3x32x64 : Shape := ⟨3, ![3, 32, 64]⟩
abbrev S3x32x1 : Shape := ⟨3, ![3, 32, 1]⟩
abbrev S_ : Shape := ⟨0, ![]⟩

class Facts : Prop where
  bcast_S3x32_S3x32x1_0_1 : S3x32.BroadcastsInDim S3x32x1 (![0, 1] : Fin 2 → Fin S3x32x1.rank)
  bcast_S3x32x1_S3x32x640_0_1_2 : S3x32x1.BroadcastsInDim S3x32x640 (![0, 1, 2] : Fin 3 → Fin S3x32x640.rank)
  bcast_S_S3x32x640 : S_.BroadcastsInDim S3x32x640 (![] : Fin 0 → Fin S3x32x640.rank)

variable [Facts]

def fn {F : FTy → Type} [FloatOps F] (main_arg0 : IVec S3x32x640x64 8) (main_arg1 : FVec F S3x32x640 .f32) (main_arg2 : IVec S3x32x640x64 8) (main_arg3 : FVec F S3x32 .f32) (main_arg4 : IVec S3x32x640x64 8) (main_arg5 : FVec F S3x32x64 .f32) : IVec S3x32x640 1 :=
  let main_v0 : FVec F S3x32x1 .f32 := broadcastInDim S3x32x1 ![0, 1] bcast_S3x32_S3x32x1_0_1 main_arg3
  let main_v1 : FVec F S3x32x640 .f32 := broadcastInDim S3x32x640 ![0, 1, 2] bcast_S3x32x1_S3x32x640_0_1_2 main_v0
  let main_v2 : FVec F S3x32x640 .f32 := mulf main_arg1 main_v1
  let main_v3 : FVec F S3x32x640 .f32 := Host.absf main_v2
  let main_cst : FVec F S_ .f32 := constant S_ .f32 0x43000000#32
  let main_v4 : FVec F S3x32x640 .f32 := broadcastInDim S3x32x640 ![] bcast_S_S3x32x640 main_cst
  let main_v5 : IVec S3x32x640 1 := cmpf .ole main_v3 main_v4
  main_v5
-- ==== Kernel.lean ====
abbrev S3x32x640x64 : Shape := ⟨4, ![3, 32, 640, 64]⟩
abbrev S3x32x640 : Shape := ⟨3, ![3, 32, 640]⟩
abbrev S3x32 : Shape := ⟨2, ![3, 32]⟩
abbrev S3x32x64 : Shape := ⟨3, ![3, 32, 64]⟩
abbrev S3x32x1x640 : Shape := ⟨4, ![3, 32, 1, 640]⟩
abbrev S3x32x640x320 : Shape := ⟨4, ![3, 32, 640, 320]⟩
abbrev S1x1x640x64 : Shape := ⟨4, ![1, 1, 640, 64]⟩
abbrev S1x32x640 : Shape := ⟨3, ![1, 32, 640]⟩
abbrev S1x32x64 : Shape := ⟨3, ![1, 32, 64]⟩
abbrev S1x1x1x640 : Shape := ⟨4, ![1, 1, 1, 640]⟩
abbrev S1x1x640x320 : Shape := ⟨4, ![1, 1, 640, 320]⟩
abbrev S640x64 : Shape := ⟨2, ![640, 64]⟩
abbrev S320x64 : Shape := ⟨2, ![320, 64]⟩
abbrev S256x64 : Shape := ⟨2, ![256, 64]⟩
abbrev S64x64 : Shape := ⟨2, ![64, 64]⟩
abbrev S1x1x64 : Shape := ⟨3, ![1, 1, 64]⟩
abbrev S1x64 : Shape := ⟨2, ![1, 64]⟩
abbrev S1x1x640 : Shape := ⟨3, ![1, 1, 640]⟩
abbrev S1x640 : Shape := ⟨2, ![1, 640]⟩
abbrev S1x1 : Shape := ⟨2, ![1, 1]⟩
abbrev S1x1x128x64 : Shape := ⟨4, ![1, 1, 128, 64]⟩
abbrev S128x64 : Shape := ⟨2, ![128, 64]⟩
abbrev S128x640 : Shape := ⟨2, ![128, 640]⟩
abbrev S1x128 : Shape := ⟨2, ![1, 128]⟩
abbrev S128x128 : Shape := ⟨2, ![128, 128]⟩
abbrev S128x1 : Shape := ⟨2, ![128, 1]⟩
abbrev S128 : Shape := ⟨1, ![128]⟩
abbrev S1x1x1x128 : Shape := ⟨4, ![1, 1, 1, 128]⟩
abbrev S128x256 : Shape := ⟨2, ![128, 256]⟩
abbrev S1x1x128x256 : Shape := ⟨4, ![1, 1, 128, 256]⟩

abbrev nBuf : Space → Nat
  | .hbm => 9
  | .vmem => 16
  | .smem => 1
  | _ => 0

abbrev bufTy : (tb : Table) → Fin (tcTables nBuf tb) → BufTy
  | .hbm, ⟨0, _⟩ => ⟨S3x32x640x64, .i8⟩
  | .hbm, ⟨1, _⟩ => ⟨S3x32x640, .f32⟩
  | .hbm, ⟨2, _⟩ => ⟨S3x32x640x64, .i8⟩
  | .hbm, ⟨3, _⟩ => ⟨S3x32, .f32⟩
  | .hbm, ⟨4, _⟩ => ⟨S3x32x640x64, .i8⟩
  | .hbm, ⟨5, _⟩ => ⟨S3x32x64, .f32⟩
  | .hbm, ⟨6, _⟩ => ⟨S3x32x640x64, .i8⟩
  | .hbm, ⟨7, _⟩ => ⟨S3x32x1x640, .f32⟩
  | .hbm, ⟨8, _⟩ => ⟨S3x32x640x320, .i8⟩
  | .local _ .vmem, ⟨0, _⟩ => ⟨S1x1x640x64, .i8⟩
  | .local _ .vmem, ⟨1, _⟩ => ⟨S1x1x640x64, .i8⟩
  | .local _ .vmem, ⟨2, _⟩ => ⟨S1x32x640, .f32⟩
  | .local _ .vmem, ⟨3, _⟩ => ⟨S1x32x640, .f32⟩
  | .local _ .vmem, ⟨4, _⟩ => ⟨S1x1x640x64, .i8⟩
  | .local _ .vmem, ⟨5, _⟩ => ⟨S1x1x640x64, .i8⟩
  | .local _ .vmem, ⟨6, _⟩ => ⟨S1x1x640x64, .i8⟩
  | .local _ .vmem, ⟨7, _⟩ => ⟨S1x1x640x64, .i8⟩
  | .local _ .vmem, ⟨8, _⟩ => ⟨S1x32x64, .f32⟩
  | .local _ .vmem, ⟨9, _⟩ => ⟨S1x32x64, .f32⟩
  | .local _ .vmem, ⟨10, _⟩ => ⟨S1x1x640x64, .i8⟩
  | .local _ .vmem, ⟨11, _⟩ => ⟨S1x1x640x64, .i8⟩
  | .local _ .vmem, ⟨12, _⟩ => ⟨S1x1x1x640, .f32⟩
  | .local _ .vmem, ⟨13, _⟩ => ⟨S1x1x1x640, .f32⟩
  | .local _ .vmem, ⟨14, _⟩ => ⟨S1x1x640x320, .i8⟩
  | .local _ .vmem, ⟨15, _⟩ => ⟨S1x1x640x320, .i8⟩
  | .local _ .smem, ⟨0, _⟩ => ⟨S3x32, .f32⟩
  | _, _ => ⟨S3x32x640x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨2, ![3, 32], ![false, false]⟩

def k0_off1 (i : grid0.Coords) : Fin 3 → Nat :=
  let c0_9 : Index := 0#32
  let arg1 : BitVec 32 := BitVec.ofNat 32 (i 1).val
  let v34 : Index := Scalar.indexCast arg1
  let c0_10 : Index := 0#32
  ![0, v34.toNat, 0]
def k0_off2 (i : grid0.Coords) : Fin 3 → Nat :=
  let c0_11 : Index := 0#32
  let arg1 : BitVec 32 := BitVec.ofNat 32 (i 1).val
  let v37 : Index := Scalar.indexCast arg1
  let c0_12 : Index := 0#32
  ![0, v37.toNat, 0]
def k0_off3 (i : grid0.Coords) : Fin 2 → Nat :=
  let arg0 : BitVec 32 := BitVec.ofNat 32 (i 0).val
  let v40 : Index := Scalar.indexCast arg0
  let arg1 : BitVec 32 := BitVec.ofNat 32 (i 1).val
  let v41 : Index := Scalar.indexCast arg1
  ![v40.toNat, v41.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x640x64 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x640x64 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x640x64 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x640x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x640x320 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F]
-- ==== ReferenceIdeal.lean ====
abbrev S3x32x640x64 : Shape := ⟨4, ![3, 32, 640, 64]⟩
abbrev S3x32x640 : Shape := ⟨3, ![3, 32, 640]⟩
abbrev S3x32 : Shape := ⟨2, ![3, 32]⟩
abbrev S3x32x64 : Shape := ⟨3, ![3, 32, 64]⟩
abbrev S3x32x640x640 : Shape := ⟨4, ![3, 32, 640, 640]⟩
abbrev S3x32x1 : Shape := ⟨3, ![3, 32, 1]⟩
abbrev S_ : Shape := ⟨0, ![]⟩
abbrev S3x32x640x1 : Shape := ⟨4, ![3, 32, 640, 1]⟩
abbrev S3x32x640x320 : Shape := ⟨4, ![3, 32, 640, 320]⟩
abbrev S3x32x1x64 : Shape := ⟨4, ![3, 32, 1, 64]⟩
abbrev S3x32x1x640 : Shape := ⟨4, ![3, 32, 1, 640]⟩

abbrev nBuf : Space → Nat
  | .hbm => 166
  | .vmem => 0
  | .smem => 0
  | _ => 0

abbrev hbmTy0_0 (i : Nat) : BufTy := match i % 128 with
  | 0 => ⟨S3x32x640x64, .i8⟩
  | 1 => ⟨S3x32x640, .f32⟩
  | 2 => ⟨S3x32x640x64, .i8⟩
  | 3 => ⟨S3x32, .f32⟩
  | 4 => ⟨S3x32x640x64, .i8⟩
  | 5 => ⟨S3x32x64, .f32⟩
  | 6 => ⟨S3x32x640x64, .i32⟩
  | 7 => ⟨S3x32x640x64, .bf16⟩
  | 8 => ⟨S3x32x640x64, .i32⟩
  | 9 => ⟨S3x32x640x64, .bf16⟩
  | 10 => ⟨S3x32x640x64, .i32⟩
  | 11 => ⟨S3x32x640x64, .bf16⟩
  | 12 => ⟨S3x32x640x640, .f32⟩
  | 13 => ⟨S3x32x1, .f32⟩
  | 14 => ⟨S3x32x640, .f32⟩
  | 15 => ⟨S3x32x640, .f32⟩
  | 16 => ⟨S_, .f32⟩
  | 17 => ⟨S3x32x640, .f32⟩
  | 18 => ⟨S3x32x640, .f32⟩
  | 19 => ⟨S3x32x640x1, .f32⟩
  | 20 => ⟨S3x32x640x640, .f32⟩
  | 21 => ⟨S3x32x640x640, .f32⟩
  | 22 => ⟨S3x32x640x640, .f32⟩
  | 23 => ⟨S3x32x640x640, .i32⟩
  | 24 => ⟨S_, .i32⟩
  | 25 => ⟨S3x32x640, .i32⟩
  | 26 => ⟨S3x32x640x1, .i32⟩
  | 27 => ⟨S3x32x640x640, .i32⟩
  | 28 => ⟨S3x32x640x640, .i32⟩
  | 29 => ⟨S3x32x640x640, .i32⟩
  | 30 => ⟨S_, .i32⟩
  | 31 => ⟨S3x32x640x640, .i32⟩
  | 32 => ⟨S3x32x640x640, .i32⟩
  | 33 => ⟨S3x32x640x640, .f32⟩
  | 34 => ⟨S_, .f32⟩
  | 35 => ⟨S3x32x640x640, .f32⟩
  | 36 => ⟨S3x32x640x640, .f32⟩
  | 37 => ⟨S_, .f32⟩
  | 38 => ⟨S3x32x640x640, .f32⟩
  | 39 => ⟨S3x32x640x640, .f32⟩
  | 40 => ⟨S3x32x640x640, .f32⟩
  | 41 => ⟨S3x32x640x640, .i32⟩
  | 42 => ⟨S_, .i32⟩
  | 43 => ⟨S3x32x640x640, .i32⟩
  | 44 => ⟨S3x32x640x640, .i32⟩
  | 45 => ⟨S3x32x640x640, .i32⟩
  | 46 => ⟨S_, .i32⟩
  | 47 => ⟨S3x32x640x640, .i32⟩
  | 48 => ⟨S3x32x640x640, .i32⟩
  | 49 => ⟨S3x32x640x640, .i32⟩
  | 50 => ⟨S_, .i32⟩
  | 51 => ⟨S3x32x640x640, .i32⟩
  | 52 => ⟨S3x32x640x640, .i32⟩
  | 53 => ⟨S3x32x640x640, .i32⟩
  | 54 => ⟨S_, .i32⟩
  | 55 => ⟨S3x32x640, .i32⟩
  | 56 => ⟨S3x32x640x1, .i32⟩
  | 57 => ⟨S_, .i32⟩
  | 58 => ⟨S3x32x640x1, .i32⟩
  | 59 => ⟨S3x32x640x1, .i32⟩
  | 60 => ⟨S3x32x640x640, .i32⟩
  | 61 => ⟨S3x32x640x640, .i32⟩
  | 62 => ⟨S_, .i32⟩
  | 63 => ⟨S3x32x640x640, .i32⟩
  | 64 => ⟨S3x32x640x640, .i32⟩
  | 65 => ⟨S_, .i32⟩
  | 66 => ⟨S3x32x640x640, .i32⟩
  | 67 => ⟨S3x32x640x640, .i32⟩
  | 68 => ⟨S3x32x640x640, .f32⟩
  | 69 => ⟨S3x32x640x640, .f32⟩
  | 70 => ⟨S3x32x640x640, .f32⟩
  | 71 => ⟨S3x32x640x640, .f32⟩
  | 72 => ⟨S_, .f32⟩
  | 73 => ⟨S_, .f32⟩
  | 74 => ⟨S_, .f32⟩
  | 75 => ⟨S3x32x640x640, .f32⟩
  | 76 => ⟨S3x32x640x640, .f32⟩
  | 77 => ⟨S_, .f32⟩
  | 78 => ⟨S3x32x640x640, .f32⟩
  | 79 => ⟨S3x32x640x640, .f32⟩
  | 80 => ⟨S3x32x640x640, .i32⟩
  | 81 => ⟨S3x32x640x640, .i32⟩
  | 82 => ⟨S3x32x640x640, .i1⟩
  | 83 => ⟨S3x32x640x640, .i32⟩
  | 84 => ⟨S3x32x640x640, .i32⟩
  | 85 => ⟨S_, .i32⟩
  | 86 => ⟨S3x32x640x640, .i32⟩
  | 87 => ⟨S3x32x640x640, .i32⟩
  | 88 => ⟨S3x32x640x640, .i32⟩
  | 89 => ⟨S3x32x640x640, .i1⟩
  | 90 => ⟨S3x32x640x640, .i32⟩
  | 91 => ⟨S3x32x640x640, .i32⟩
  | 92 => ⟨S_, .i32⟩
  | 93 => ⟨S3x32x640x640, .i32⟩
  | 94 => ⟨S3x32x640x640, .i32⟩
  | 95 => ⟨S3x32x640x640, .i32⟩
  | 96 => ⟨S_, .i32⟩
  | 97 => ⟨S3x32x640x640, .i32⟩
  | 98 => ⟨S3x32x640x640, .i32⟩
  | 99 => ⟨S3x32x640x640, .i32⟩
  | 100 => ⟨S_, .i32⟩
  | 101 => ⟨S3x32x640x640, .i32⟩
  | 102 => ⟨S3x32x640x640, .i32⟩
  | 103 => ⟨S_, .i32⟩
  | 104 => ⟨S3x32x640x640, .i32⟩
  | 105 => ⟨S3x32x640x640, .i32⟩
  | 106 => ⟨S_, .i32⟩
  | 107 => ⟨S3x32x640x640, .i32⟩
  | 108 => ⟨S3x32x640x640, .i32⟩
  | 109 => ⟨S3x32x640x640, .i1⟩
  | 110 => ⟨S3x32x640x640, .i32⟩
  | 111 => ⟨S3x32x640x640, .i32⟩
  | 112 => ⟨S_, .i32⟩
  | 113 => ⟨S3x32x640x640, .i32⟩
  | 114 => ⟨S3x32x640x640, .i1⟩
  | 115 => ⟨S_, .i32⟩
  | 116 => ⟨S_, .i32⟩
  | 117 => ⟨S3x32x640x640, .i32⟩
  | 118 => ⟨S3x32x640x640, .i32⟩
  | 119 => ⟨S3x32x640x320, .i32⟩
  | 120 => ⟨S3x32x640x320, .i32⟩
  | 121 => ⟨S_, .i32⟩
  | 122 => ⟨S3x32x640x320, .i32⟩
  | 123 => ⟨S3x32x640x320, .i32⟩
  | 124 => ⟨S3x32x640x320, .i32⟩
  | 125 => ⟨S3x32x640x320, .i8⟩
  | 126 => ⟨S_, .i32⟩
  | 127 => ⟨S3x32x640x640, .i32⟩
  | _ => ⟨S3x32x640x64, .i8⟩

abbrev hbmTy0_1 (i : Nat) : BufTy := match i % 128 with
  | 0 => ⟨S3x32x640x640, .i32⟩
  | 1 => ⟨S_, .i32⟩
  | 2 => ⟨S3x32x640x640, .i32⟩
  | 3 => ⟨S3x32x640x640, .i32⟩
  | 4 => ⟨S3x32x640x640, .f32⟩
  | 5 => ⟨S3x32x640x640, .bf16⟩
  | 6 => ⟨S3x32x640x64, .f32⟩
  | 7 => ⟨S3x32x1x64, .f32⟩
  | 8 => ⟨S3x32x640x64, .f32⟩
  | 9 => ⟨S3x32x640x64, .f32⟩
  | 10 => ⟨S3x32x640x64, .f32⟩
  | 11 => ⟨S_, .f32⟩
  | 12 => ⟨S3x32x640, .f32⟩
  | 13 => ⟨S_, .f32⟩
  | 14 => ⟨S3x32x640, .f32⟩
  | 15 => ⟨S3x32x640, .i1⟩
  | 16 => ⟨S_, .f32⟩
  | 17 => ⟨S3x32x640, .f32⟩
  | 18 => ⟨S3x32x640, .f32⟩
  | 19 => ⟨S_, .f32⟩
  | 20 => ⟨S_, .f32⟩
  | 21 => ⟨S3x32x640, .f32⟩
  | 22 => ⟨S3x32x640, .f32⟩
  | 23 => ⟨S3x32x640x1, .f32⟩
  | 24 => ⟨S3x32x640x64, .f32⟩
  | 25 => ⟨S3x32x640x64, .f32⟩
  | 26 => ⟨S3x32x640x64, .f32⟩
  | 27 => ⟨S_, .i32⟩
  | 28 => ⟨S_, .i32⟩
  | 29 => ⟨S_, .f32⟩
  | 30 => ⟨S3x32x640x64, .f32⟩
  | 31 => ⟨S3x32x640x64, .f32⟩
  | 32 => ⟨S_, .f32⟩
  | 33 => ⟨S3x32x640x64, .f32⟩
  | 34 => ⟨S3x32x640x64, .f32⟩
  | 35 => ⟨S3x32x640x64, .i32⟩
  | 36 => ⟨S3x32x640x64, .i8⟩
  | 37 => ⟨S3x32x1x640, .f32⟩
  | _ => ⟨S3x32x640x64, .i8⟩

abbrev hbmTy (i : Nat) : BufTy := match i / 128 with
  | 0 => hbmTy0_0 i
  | 1 => hbmTy0_1 i
  | _ => ⟨S3x32x640x64, .i8⟩

abbrev bufTy : (tb : Table) → Fin (tcTables nBuf tb) → BufTy
  | .hbm, ⟨i, _⟩ => hbmTy i
  | _, _ => ⟨S3x32x640x64, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_c_19 : Ref sig .tc := ⟨.hbm, 115, rfl⟩
abbrev main_call2_v0 : Ref sig .tc := ⟨.hbm, 116, rfl⟩
abbrev main_call2_v1 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_21 : Ref sig .tc := ⟨.hbm, 126, rfl⟩
abbrev main_v90 : Ref sig .tc := ⟨.hbm, 127, rfl⟩
abbrev main_v91 : Ref sig .tc := ⟨.hbm, 128, rfl⟩
abbrev main_c_22 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_cst_24 : Ref sig .tc := ⟨.hbm, 141, rfl⟩
abbrev main_v102 : Ref sig .tc := ⟨.hbm, 142, rfl⟩
abbrev main_v103 : Ref sig .tc := ⟨.hbm, 143, rfl⟩
abbrev main_cst_25 : Ref sig .tc := ⟨.hbm, 144, rfl⟩
abbrev main_v104 : Ref sig .tc := ⟨.hbm, 145, rfl⟩
abbrev main_v105 : Ref sig .tc := ⟨.hbm, 146, rfl⟩
abbrev main_cst_26 : Ref sig .tc := ⟨.hbm, 147, rfl⟩
abbrev main_call3_v0 : Ref sig .tc := ⟨.hbm, 148, rfl⟩
abbrev main_call3_v1 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_27 : Ref sig .tc := ⟨.hbm, 155, rfl⟩
abbrev main_c_28 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩

abbrev nD : Nat := 1
abbrev τ : Topo := Topo.v7x

variable {F : FTy → Type} [FloatOps F]
-- ==== Proof.Score.lean ====
/- The integer arithmetic of one attention row: a key's distance below the row's largest score gives an integer
   exponential, the row's exponentials are summed, and each is turned into a four-bit code of its share of the sum.
   No floats here: both programs are shown to compute these functions in the sibling modules. -/
module

public import Idealize.ShloMosaic.PureOps.Ideal.Laws

@[expose] public section

noncomputable section

namespace Cert.Attend

open scoped BigOperators

/-- How many times the exponential of a key at distance `x` is halved: `⌊(x + 1/2) · c⌋`, `c = 3050403 / 2^26` the
    f32 nearest `1/22`. -/
def halvings (x : ℤ) : ℤ := (2 * x + 1) * 3050403 / 2 ^ 27

/-- The integer exponential of a key at distance `x`. -/
def expo (x : ℤ) : ℤ := ((22 * halvings x - x + 43) ^ 2 + 982) / 2 ^ (halvings x).toNat

/-- The rounded ratio of the row's sum `S` to the key's exponential `e` (ties upwards), clamped at 32767, which also
    stands for a zero exponential. -/
def ratio (e S : ℤ) : ℤ := if e = 0 then 32767 else min ((2 * S + e) / (2 * e)) 32767

/-- The code of an exponential `e` in a row of sum `S`: the exponent of the power of two nearest the ratio. -/
def codeOf (e S : ℤ) : ℕ := (Nat.log2 ((ratio e S).toNat ^ 2) + 1) / 2

/-- The row's largest score. -/
def rowMax (s : Fin 640 → ℤ) : ℤ := Finset.univ.sup' ⟨0, Finset.mem_univ _⟩ s
/-- The exponential of key `j`. -/
def rowExp (s : Fin 640 → ℤ) (j : Fin 640) : ℤ := expo (rowMax s - s j)
/-- The sum of the row's exponentials. -/
def rowSum (s : Fin 640 → ℤ) : ℤ := ∑ j, rowExp s j
/-- The code of key `j`. -/
def rowCode (s : Fin 640 → ℤ) (j : Fin 640) : ℕ := codeOf (rowExp s j) (rowSum s)

/-! ## The exponential -/

theorem halvings_bounds (x : ℤ) (h0 : 0 ≤ x) (h1 : x ≤ 2 ^ 30) : 0 ≤ halvings x ∧ halvings x ≤ 2 ^ 26 := by
  unfold halvings; omega

/-- The polynomial's argument stays small however far the key is. -/
theorem arg_bounds (x : ℤ) (h0 : 0 ≤ x) (h1 : x ≤ 2 ^ 30) :
    0 ≤ 22 * halvings x - x + 43 ∧ 22 * halvings x - x + 43 ≤ 76 := by
  unfold halvings; omega

/-- Beyond a distance of 263 the exponential is zero. -/
theorem expo_far (x : ℤ) (h0 : 264 ≤ x) (h1 : x ≤ 2 ^ 30) : expo x = 0 := by
  have hb := arg_bounds x (by omega) h1
  have hz := halvings_bounds x (by omega) h1
  unfold expo
  apply Int.ediv_eq_zero_of_lt
  · nlinarith
  by_cases hx : x ≤ 285
  · have hz12 : 12 ≤ halvings x := by unfold halvings; omega
    have hp : 22 * halvings x - x + 43 ≤ 43 := by unfold halvings; omega
    have h2 : (2 : ℤ) ^ 12 ≤ 2 ^ (halvings x).toNat := pow_le_pow_right₀ (by norm_num) (by omega)
    nlinarith
  · have hz13 : 13 ≤ halvings x := by unfold halvings; omega
    have h2 : (2 : ℤ) ^ 13 ≤ 2 ^ (halvings x).toNat := pow_le_pow_right₀ (by norm_num) (by omega)
    nlinarith

/-- Clamping the distance at 264 changes nothing. -/
theorem expo_min (x : ℤ) (h0 : 0 ≤ x) (h1 : x ≤ 2 ^ 30) : expo (min x 264) = expo x := by
  rcases le_total x 264 with h | h
  · rw [min_eq_left h]
  · rw [min_eq_right h, expo_far x h h1, expo_far 264 (by norm_num) (by norm_num)]

theorem expo_zero : expo 0 = 2831 := by decide +kernel

/-- The polynomial is at most 2831 up to the clamp. -/
theorem expo_bounds (x : ℤ) (h0 : 0 ≤ x) (h1 : x ≤ 2 ^ 30) : 0 ≤ expo x ∧ expo x ≤ 2831 := by
  have hz := halvings_bounds x (by omega) h1
  have hb := arg_bounds x (by omega) h1
  constructor
  · unfold expo; positivity
  by_cases hx : 264 ≤ x
  · rw [expo_far x hx h1]; norm_num
  · have hp : 22 * halvings x - x + 43 ≤ 43 := by unfold halvings; omega
    unfold expo
    have h2 : (0 : ℤ) < 2 ^ (halvings x).toNat := by positivity
    refine le_trans (Int.ediv_le_self _ (by positivity)) ?_
    nlinarith

/-! ## The row -/

theorem le_rowMax (s : Fin 640 → ℤ) (j : Fin 640) : s j ≤ rowMax s := Finset.le_sup' s (Finset.mem_univ j)

theorem exists_rowMax (s : Fin 640 → ℤ) : ∃ j, rowMax s = s j := by
  obtain ⟨j, -, h⟩ := Finset.exists_mem_eq_sup' (s := (Finset.univ : Finset (Fin 640))) ⟨0, Finset.mem_univ _⟩ s
  exact ⟨j, h⟩

/-- Every score is at distance between 0 and `2^30` from the largest. -/
theorem dist_bounds (s : Fin 640 → ℤ) (hs : ∀ j, |s j| ≤ 2 ^ 29) (j : Fin 640) :
    0 ≤ rowMax s - s j ∧ rowMax s - s j ≤ 2 ^ 30 := by
  obtain ⟨i, hi⟩ := exists_rowMax s
  have h1 := abs_le.mp (hs i)
  have h2 := abs_le.mp (hs j)
  have h3 := le_rowMax s j
  omega

theorem rowExp_bounds (s : Fin 640 → ℤ) (hs : ∀ j, |s j| ≤ 2 ^ 29) (j : Fin 640) : 0 ≤ rowExp s j ∧ rowExp s j ≤ 2831 :=
  expo_bounds _ (dist_bounds s hs j).1 (dist_bounds s hs j).2

theorem rowExp_le_rowSum (s : Fin 640 → ℤ) (hs : ∀ j, |s j| ≤ 2 ^ 29) (j : Fin 640) : rowExp s j ≤ rowSum s :=
  Finset.single_le_sum (f := rowExp s) (fun i _ => (rowExp_bounds s hs i).1) (Finset.mem_univ j)

/-- The sum is positive (the largest score's exponential is 2831) and below `2^21`. -/
theorem rowSum_bounds (s : Fin 640 → ℤ) (hs : ∀ j, |s j| ≤ 2 ^ 29) : 2831 ≤ rowSum s ∧ rowSum s < 2 ^ 21 := by
  constructor
  · obtain ⟨j, hj⟩ := exists_rowMax s
    have h := rowExp_le_rowSum s hs j
    rwa [show rowExp s j = 2831 by rw [rowExp, hj, sub_self, expo_zero]] at h
  · have h : rowSum s ≤ ∑ _j : Fin 640, (2831 : ℤ) := Finset.sum_le_sum fun j _ => (rowExp_bounds s hs j).2
    simp at h
    omega

/-! ## The code -/

/-- The ratio lies between 1 and 32767. -/
theorem ratio_bounds (e S : ℤ) (he : 0 ≤ e) (hS : e ≤ S) : 1 ≤ ratio e S ∧ ratio e S ≤ 32767 := by
  unfold ratio
  split_ifs with h
  · norm_num
  · refine ⟨le_min ?_ (by norm_num), min_le_right _ _⟩
    rw [Int.le_ediv_iff_mul_le (by omega)]; omega

/-- The rounded ratio from its two defining inequalities. -/
theorem quot_spec (e S : ℤ) (he : 1 ≤ e) :
    2 * e * ((2 * S + e) / (2 * e)) ≤ 2 * S + e ∧ 2 * S + e < 2 * e * ((2 * S + e) / (2 * e)) + 2 * e := by
  have h := Int.mul_ediv_add_emod (2 * S + e) (2 * e)
  have h1 := Int.emod_nonneg (2 * S + e) (show 2 * e ≠ 0 by omega)
  have h2 := Int.emod_lt_of_pos (2 * S + e) (show 0 < 2 * e by omega)
  constructor <;> linarith

/-- The logarithm of a square is twice the logarithm, plus one when the square reaches the next odd power. -/
theorem log2_sq (r : ℕ) (hr : 1 ≤ r) :
    (Nat.log2 (r ^ 2) + 1) / 2 = Nat.log2 r + (if 2 ^ (2 * Nat.log2 r + 1) ≤ r ^ 2 then 1 else 0) := by
  have h0 : r ≠ 0 := by omega
  have hl := Nat.log2_self_le h0
  have hu := Nat.lt_log2_self (n := r)
  have h2 : r ^ 2 ≠ 0 := by positivity
  have hlo : 2 * Nat.log2 r ≤ Nat.log2 (r ^ 2) := by
    rw [Nat.le_log2 h2, pow_mul']; exact Nat.pow_le_pow_left hl 2
  have hhi : Nat.log2 (r ^ 2) < 2 * Nat.log2 r + 2 := by
    rw [Nat.log2_lt h2, show 2 * Nat.log2 r + 2 = 2 * (Nat.log2 r + 1) by ring, pow_mul']
    exact Nat.pow_lt_pow_left hu (by norm_num)
  split_ifs with h
  · rw [← Nat.le_log2 h2] at h; omega
  · rw [← Nat.le_log2 h2] at h; omega

/-- The code of a zero exponential is 15. -/
theorem codeOf_zero (S : ℤ) : codeOf 0 S = 15 := by
  unfold codeOf ratio; rw [if_pos rfl]; decide +kernel

/-- A code is at most 15. -/
theorem codeOf_le (e S : ℤ) (he : 0 ≤ e) (hS : e ≤ S) : codeOf e S ≤ 15 := by
  have h := ratio_bounds e S he hS
  have hr : (ratio e S).toNat ≤ 32767 := by omega
  have hr1 : 1 ≤ (ratio e S).toNat := by omega
  have h2 : (ratio e S).toNat ^ 2 ≠ 0 := by positivity
  have : Nat.log2 ((ratio e S).toNat ^ 2) < 30 := by
    rw [Nat.log2_lt h2]
    calc (ratio e S).toNat ^ 2 ≤ 32767 ^ 2 := Nat.pow_le_pow_left hr 2
      _ < 2 ^ 30 := by norm_num
  unfold codeOf; omega

theorem rowCode_le (s : Fin 640 → ℤ) (hs : ∀ j, |s j| ≤ 2 ^ 29) (j : Fin 640) : rowCode s j ≤ 15 :=
  codeOf_le _ _ (rowExp_bounds s hs j).1 (rowExp_le_rowSum s hs j)

end Cert.Attend

end
-- ==== Proof.Scalar.lean ====
/- One element of the kernel's float arithmetic: the chain of operations from a score's difference to the row's largest
   down to the key's shifted code, as extended-real expressions, and the theorems that on an integer difference the
   chain computes exactly the integer functions of Score. -/
module

public import proofs.«01_k».proof.Proof.Score

@[expose] public section

noncomputable section

namespace Cert.Attend

open Idealize.ShloMosaic
open scoped BigOperators

/-- The kernel's exponential of a difference `w`. -/
def kexp (w : EReal) : EReal :=
  Ideal.liftRound Int.floor
    ((((w - Ideal.liftRound Int.ceil ((w - Ideal.ofBits .f32 0x3F000000#32) * Ideal.ofBits .f32 0x3D3A2E8C#32) * Ideal.ofBits .f32 0x41B00000#32)
          + Ideal.ofBits .f32 0x422C0000#32)
        * ((w - Ideal.liftRound Int.ceil ((w - Ideal.ofBits .f32 0x3F000000#32) * Ideal.ofBits .f32 0x3D3A2E8C#32) * Ideal.ofBits .f32 0x41B00000#32)
          + Ideal.ofBits .f32 0x422C0000#32)
      + Ideal.ofBits .f32 0x44759000#32)
      * Ideal.exp2 (Ideal.liftRound Int.ceil ((w - Ideal.ofBits .f32 0x3F000000#32) * Ideal.ofBits .f32 0x3D3A2E8C#32)))

/-- The kernel's clamped ratio of a row sum `S` and an exponential `e`. -/
def kratio (S e : EReal) : EReal :=
  min (Ideal.liftRound Ideal.roundHalfEven ((S * Ideal.ofBits .f32 0x3F800001#32) * Ideal.div (Ideal.ofBits .f32 0x3F800000#32) e))
    (Ideal.ofBits .f32 0x46FFFE00#32)

/-- The kernel's code, still shifted by 63, of a row sum `S` and an exponential `e`. -/
def kword (S e : EReal) : BitVec 32 :=
  IntOp.shrsi .vector (IntOp.subi 158#32 (IntOp.ctlz (Ideal.fptosi 32 (kratio S e * kratio S e)))) 1#32

/-! ## The constants -/

theorem c_half : Ideal.ofBits .f32 0x3F000000#32 = ((1 / 2 : ℝ) : EReal) := by
  simp [Ideal.ofBits, Ideal.ieee, -EReal.coe_mul]; norm_num
theorem c_inv : Ideal.ofBits .f32 0x3D3A2E8C#32 = ((3050403 / 2 ^ 26 : ℝ) : EReal) := by
  simp [Ideal.ofBits, Ideal.ieee, -EReal.coe_mul]; norm_num
theorem c_22 : Ideal.ofBits .f32 0x41B00000#32 = ((22 : ℝ) : EReal) := by
  simp [Ideal.ofBits, Ideal.ieee, -EReal.coe_mul]; norm_num
theorem c_43 : Ideal.ofBits .f32 0x422C0000#32 = ((43 : ℝ) : EReal) := by
  simp [Ideal.ofBits, Ideal.ieee, -EReal.coe_mul]; norm_num
theorem c_982 : Ideal.ofBits .f32 0x44759000#32 = ((982 + 1 / 4 : ℝ) : EReal) := by
  simp [Ideal.ofBits, Ideal.ieee, -EReal.coe_mul, -EReal.coe_add]; norm_num
theorem c_up : Ideal.ofBits .f32 0x3F800001#32 = ((1 + 1 / 2 ^ 23 : ℝ) : EReal) := by
  simp [Ideal.ofBits, Ideal.ieee, -EReal.coe_mul, -EReal.coe_add]; norm_num
theorem c_one : Ideal.ofBits .f32 0x3F800000#32 = ((1 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_top : Ideal.ofBits .f32 0x46FFFE00#32 = ((32767 : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num
theorem c_bot : Ideal.ofBits .f32 0xFF800000#32 = ⊥ := by
  simp [Ideal.ofBits, Ideal.ieee]
theorem c_zero : Ideal.ofBits .f32 0x00000000#32 = 0 := by
  simp [Ideal.ofBits, Ideal.ieee]

/-! ## Rounding -/

/-- A real within one half of an integer rounds to it. -/
theorem roundHalfEven_of_near (y : ℝ) (n : ℤ) (h0 : (n : ℝ) - 1 / 2 < y) (h1 : y < n + 1 / 2) : Ideal.roundHalfEven y = n := by
  have hf : ⌊y⌋ = n ∨ ⌊y⌋ = n - 1 := by
    have h2 : n - 1 ≤ ⌊y⌋ := by rw [Int.le_floor]; push_cast; linarith
    have h3 : ⌊y⌋ < n + 1 := by rw [Int.floor_lt]; push_cast; linarith
    omega
  unfold Ideal.roundHalfEven
  rcases hf with h | h
  · simp only [h]
    rw [if_pos (by linarith)]
  · simp only [h]
    push_cast
    rw [if_neg (by linarith), if_pos (by linarith)]
    ring

/-- Rounding a real of magnitude at most an integer `B` gives an integer of magnitude at most `B`. -/
theorem abs_roundHalfEven_le (y : ℝ) (B : ℤ) (h : |y| ≤ B) : |Ideal.roundHalfEven y| ≤ B := by
  have h' := abs_le.mp h
  have h2 : -B ≤ ⌊y⌋ := by rw [Int.le_floor]; push_cast; linarith
  have h3 : ⌊y⌋ ≤ B := by exact_mod_cast (Int.floor_le y).trans h'.2
  have h4 : (⌊y⌋ : ℝ) ≤ y := Int.floor_le y
  have h5 : ⌊y⌋ = B → y = B := fun e => le_antisymm h'.2 (by rw [← e]; exact h4)
  have key : Ideal.roundHalfEven y = ⌊y⌋ ∨ (Ideal.roundHalfEven y = ⌊y⌋ + 1 ∧ ⌊y⌋ ≠ B) := by
    unfold Ideal.roundHalfEven
    simp only
    split_ifs with a b c
    · exact .inl rfl
    · refine .inr ⟨rfl, fun e => ?_⟩
      rw [h5 e] at b; simp at b; linarith
    · exact .inl rfl
    · refine .inr ⟨rfl, fun e => ?_⟩
      rw [h5 e] at a; simp at a
  rw [abs_le]
  rcases key with k | ⟨k, k'⟩ <;> rw [k] <;> omega

/-! ## The exponential -/

/-- On the negated distance of a key the kernel's exponential is the integer one. -/
theorem kexp_eq (x : ℤ) (h0 : 0 ≤ x) (h1 : x ≤ 2 ^ 30) : kexp ((((-x : ℤ) : ℝ)) : EReal) = ((expo x : ℝ) : EReal) := by
  have hz := (halvings_bounds x h0 h1).1
  have hceil : ⌈(((-x : ℤ) : ℝ) - 1 / 2) * (3050403 / 2 ^ 26)⌉ = -halvings x := by
    have hd := Int.mul_ediv_add_emod ((2 * x + 1) * 3050403) (2 ^ 27)
    have hm0 := Int.emod_nonneg ((2 * x + 1) * 3050403) (show (2 ^ 27 : ℤ) ≠ 0 by norm_num)
    have hm1 := Int.emod_lt_of_pos ((2 * x + 1) * 3050403) (show (0 : ℤ) < 2 ^ 27 by norm_num)
    have a1 : (2 : ℤ) ^ 27 * halvings x ≤ (2 * x + 1) * 3050403 := by unfold halvings; linarith
    have a2 : (2 * x + 1) * 3050403 < 2 ^ 27 * halvings x + 2 ^ 27 := by unfold halvings; linarith
    have b1 : (2 : ℝ) ^ 27 * (halvings x : ℝ) ≤ (2 * (x : ℝ) + 1) * 3050403 := by exact_mod_cast a1
    have b2 : (2 * (x : ℝ) + 1) * 3050403 < 2 ^ 27 * (halvings x : ℝ) + 2 ^ 27 := by exact_mod_cast a2
    rw [Int.ceil_eq_iff]
    push_cast
    constructor <;> linarith
  have hfl : ∀ (p : ℤ) (n : ℕ), 0 ≤ p → ⌊((p : ℝ) + 1 / 4) * (2 : ℝ) ^ (-(n : ℝ))⌋ = p / 2 ^ n := by
    intro p n hp
    have h2 : (0 : ℝ) < 2 ^ n := by positivity
    rw [Real.rpow_neg (by norm_num), Real.rpow_natCast, ← div_eq_mul_inv, Int.floor_eq_iff]
    have hd := Int.mul_ediv_add_emod p (2 ^ n)
    have hm0 := Int.emod_nonneg p (show (2 ^ n : ℤ) ≠ 0 by positivity)
    have hm1 := Int.emod_lt_of_pos p (show (0 : ℤ) < 2 ^ n by positivity)
    have a1 : 2 ^ n * (p / 2 ^ n) ≤ p := by linarith
    have a2 : p + 1 ≤ 2 ^ n * (p / 2 ^ n) + 2 ^ n := by linarith
    have b1 : (2 : ℝ) ^ n * ((p / 2 ^ n : ℤ) : ℝ) ≤ p := by exact_mod_cast a1
    have b2 : (p : ℝ) + 1 ≤ (2 : ℝ) ^ n * ((p / 2 ^ n : ℤ) : ℝ) + 2 ^ n := by exact_mod_cast a2
    constructor
    · rw [le_div_iff₀ h2]; linarith
    · rw [div_lt_iff₀ h2]; linarith
  unfold kexp
  rw [c_half, c_inv, c_22, c_43, c_982]
  rw [← EReal.coe_sub, ← EReal.coe_mul, Ideal.liftRound_coe, hceil, Ideal.exp2_coe]
  rw [← EReal.coe_mul, ← EReal.coe_sub, ← EReal.coe_add, ← EReal.coe_mul, ← EReal.coe_add, ← EReal.coe_mul, Ideal.liftRound_coe]
  congr 2
  have hp : (0 : ℤ) ≤ (22 * halvings x - x + 43) ^ 2 + 982 := by positivity
  have := hfl ((22 * halvings x - x + 43) ^ 2 + 982) (halvings x).toNat hp
  unfold expo
  rw [← this]
  congr 1
  have hn : (((halvings x).toNat : ℕ) : ℝ) = (halvings x : ℝ) := by
    have : (((halvings x).toNat : ℕ) : ℤ) = halvings x := Int.toNat_of_nonneg hz
    exact_mod_cast this
  rw [hn]
  have hr : Real.rpow 2 ((-halvings x : ℤ) : ℝ) = (2 : ℝ) ^ (-(halvings x : ℝ)) := by push_cast; rfl
  rw [hr]
  push_cast
  ring

/-! ## The code -/

/-- On an integer row the kernel's ratio is the integer one. -/
theorem kratio_eq (e S : ℤ) (he : 0 ≤ e) (hS : e ≤ S) (h1 : 1 ≤ S) (h2 : S < 2 ^ 21) :
    kratio ((S : ℝ) : EReal) ((e : ℝ) : EReal) = ((ratio e S : ℝ) : EReal) := by
  have hS0 : (0 : ℝ) < (S : ℝ) := by exact_mod_cast h1
  unfold kratio
  rw [c_up, c_one, c_top, ← EReal.coe_mul]
  by_cases h0 : e = 0
  · subst h0
    have hd : Ideal.div ((1 : ℝ) : EReal) (((0 : ℤ) : ℝ) : EReal) = ⊤ := by
      unfold Ideal.div
      rw [Int.cast_zero, EReal.coe_zero, if_pos rfl, if_pos (by norm_num)]
    rw [hd, EReal.coe_mul_top_of_pos (by positivity), Ideal.liftRound_top, min_eq_right le_top]
    rfl
  · have he1 : 1 ≤ e := by omega
    have he0 : (0 : ℝ) < (e : ℝ) := by exact_mod_cast he1
    rw [Ideal.div_coe (by exact_mod_cast h0), ← EReal.coe_mul, ← EReal.coe_mul, Ideal.liftRound_coe]
    obtain ⟨q1, q2⟩ := quot_spec e S he1
    have r1 : 2 * (e : ℝ) * (((2 * S + e) / (2 * e) : ℤ) : ℝ) ≤ 2 * S + e := by exact_mod_cast q1
    have r2 : 2 * (S : ℝ) + e + 1 ≤ 2 * e * (((2 * S + e) / (2 * e) : ℤ) : ℝ) + 2 * e := by
      have : 2 * S + e + 1 ≤ 2 * e * ((2 * S + e) / (2 * e)) + 2 * e := q2
      exact_mod_cast this
    have hS2 : (S : ℝ) < 2 ^ 21 := by exact_mod_cast h2
    have hr : Ideal.roundHalfEven (S * (1 + 1 / 2 ^ 23) * (1 * (1 / (e : ℝ)))) = (2 * S + e) / (2 * e) := by
      apply roundHalfEven_of_near
      · rw [one_mul, mul_one_div, lt_div_iff₀ he0]; nlinarith
      · rw [one_mul, mul_one_div, div_lt_iff₀ he0]; nlinarith
    rw [hr]
    unfold ratio
    rw [if_neg h0, Int.cast_min, EReal.coe_strictMono.monotone.map_min]
    norm_cast

/-- The float-to-integer conversion of a nonnegative integer below `2^31`. -/
theorem fptosi_nat (n : ℕ) (h : n < 2 ^ 31) : Ideal.fptosi 32 ((n : ℝ) : EReal) = BitVec.ofNat 32 n := by
  unfold Ideal.fptosi
  rw [Ideal.toIntClamped_coe, if_pos (by positivity), show ⌊(n : ℝ)⌋ = (n : ℤ) from by simp]
  rw [show max (-((2 ^ (32 - 1) : ℕ) : ℤ)) (min (((2 ^ (32 - 1) : ℕ) : ℤ) - 1) (n : ℤ)) = (n : ℤ) by norm_num; omega]
  exact BitVec.ofInt_natCast 32 n

/-- Half of 158 less the leading zeros of a square is 63 more than the code. -/
theorem word_of_square (q : ℕ) (h0 : 1 ≤ q) (h1 : q < 2 ^ 30) :
    IntOp.shrsi .vector (IntOp.subi 158#32 (IntOp.ctlz (BitVec.ofNat 32 q))) 1#32 = BitVec.ofNat 32 ((Nat.log2 q + 1) / 2 + 63) := by
  have hq : (BitVec.ofNat 32 q).toNat = q := by rw [BitVec.toNat_ofNat]; omega
  have hne : BitVec.ofNat 32 q ≠ 0 := by
    intro h; have := congrArg BitVec.toNat h; rw [hq] at this; simp at this; omega
  have hl : Nat.log2 q < 30 := by rw [Nat.log2_lt (by omega)]; exact h1
  unfold IntOp.ctlz
  rw [if_neg hne, hq]
  generalize Nat.log2 q = l at hl
  interval_cases l <;> decide +kernel

/-- On an integer row the kernel's shifted code is the integer code plus 63. -/
theorem kword_eq (e S : ℤ) (he : 0 ≤ e) (hS : e ≤ S) (h1 : 1 ≤ S) (h2 : S < 2 ^ 21) :
    kword ((S : ℝ) : EReal) ((e : ℝ) : EReal) = BitVec.ofNat 32 (codeOf e S + 63) := by
  have hb := ratio_bounds e S he hS
  unfold kword
  rw [kratio_eq e S he hS h1 h2, ← EReal.coe_mul]
  have hc : (ratio e S : ℝ) * (ratio e S : ℝ) = (((ratio e S).toNat ^ 2 : ℕ) : ℝ) := by
    have h : (((ratio e S).toNat : ℕ) : ℤ) = ratio e S := Int.toNat_of_nonneg (by omega)
    have h' : (((ratio e S).toNat : ℕ) : ℝ) = (ratio e S : ℝ) := by exact_mod_cast h
    push_cast; rw [h']; ring
  have hr : (ratio e S).toNat ≤ 32767 := by omega
  have hr1 : 1 ≤ (ratio e S).toNat := by omega
  have hq1 : (ratio e S).toNat ^ 2 < 2 ^ 30 := lt_of_le_of_lt (Nat.pow_le_pow_left hr 2) (by norm_num)
  have hq0 : 1 ≤ (ratio e S).toNat ^ 2 := Nat.one_le_pow _ _ hr1
  rw [hc, fptosi_nat _ (by omega), word_of_square _ hq0 hq1]
  rfl

end Cert.Attend

end
-- ==== Proof.Tile.lean ====
/- The kernel body's four stages as functions of one tile of 128 rows, and the printed payloads of each of the five
   tiles shown to be these functions (the printed text cuts the same stages at different places in each tile). -/
module

public import proofs.«01_k».proof.Proof.Scalar
public import proofs.«01_k».proof.Proof.Gen.KernelIdeal.Skeleton

@[expose] public section

set_option synthInstance.maxSize 4096

noncomputable section

namespace Cert.Attend

open Idealize.ShloMosaic Cert.KernelIdeal Cert.KernelIdeal.Gen

/-- The rounded scores of a tile: the query rows against the keys, each row multiplied by its own factor. -/
def tileScores (kp : FVec Ideal S640x64 .bf16) (mt : FVec Ideal S1x128 .f32) (q : Vec Ideal S1x1x128x64 .i8) : FVec Ideal S128x640 .f32 :=
  roundeven (mulf
    (matmul dot_S128x64_S640x64_S128x640_1_1_0_0_n_n none (sitofp .bf16 (shapeCast S128x64 q shapeCasts_S1x1x128x64_S128x64)) kp
      (constant S128x640 .f32 0x00000000#32))
    (broadcastTo S128x640
      (extractStridedSlice S128x1 ![0, 0]
        (transpose S128x128 [1, 0]
          (broadcastTo S128x128 (shapeCast S1x128 mt shapeCasts_S1x128_S1x128) broadcasts_S1x128_S128x128)
          transposes_S128x128_p1_0_S128x128)
        slices_S128x128_o0_0_S128x1)
      broadcasts_S128x1_S128x640))

/-- The differences of a tile's scores to their row's largest. -/
def tileDiffs (sc : FVec Ideal S128x640 .f32) : FVec Ideal S128x640 .f32 :=
  subf sc (broadcastTo S128x640
    (shapeCast S128x1 (multiReduction .maximumf [1] S128 sc 0xFF800000#32 reduces_S128x640_S128 (.inl rfl) rfl) shapeCasts_S128_S128x1)
    broadcasts_S128x1_S128x640)

/-- The number of halvings of each element, negated. -/
def tileHalvings (w : FVec Ideal S128x640 .f32) : FVec Ideal S128x640 .f32 :=
  ceil (mulf (subf w (broadcast S128x640 (Scalar.ofBits .f32 0x3F000000#32))) (broadcast S128x640 (Scalar.ofBits .f32 0x3D3A2E8C#32)))

/-- The square of the polynomial's argument. -/
def tileSquares (w z : FVec Ideal S128x640 .f32) : FVec Ideal S128x640 .f32 :=
  mulf (addf (subf w (mulf z (broadcast S128x640 (Scalar.ofBits .f32 0x41B00000#32)))) (broadcast S128x640 (Scalar.ofBits .f32 0x422C0000#32)))
    (addf (subf w (mulf z (broadcast S128x640 (Scalar.ofBits .f32 0x41B00000#32)))) (broadcast S128x640 (Scalar.ofBits .f32 0x422C0000#32)))

/-- The exponentials of a tile, from the halvings and the squares. -/
def tileExps (z u : FVec Ideal S128x640 .f32) : FVec Ideal S128x640 .f32 :=
  floor (mulf (addf u (broadcast S128x640 (Scalar.ofBits .f32 0x44759000#32))) (exp2 z))

/-- The rounded ratios of a tile's row sums to its exponentials, not yet clamped. -/
def tileRatios (e : FVec Ideal S128x640 .f32) : FVec Ideal S128x640 .f32 :=
  roundeven (mulf
    (broadcastTo S128x640
      (mulf (shapeCast S128x1 (multiReduction .add [1] S128 e 0x00000000#32 reduces_S128x640_S128 (.inl rfl) rfl) shapeCasts_S128_S128x1)
        (broadcast S128x1 (Scalar.ofBits .f32 0x3F800001#32)))
      broadcasts_S128x1_S128x640)
    (divf (broadcast S128x640 (Scalar.ofBits .f32 0x3F800000#32)) e))

/-- The shifted codes of a tile, from its unclamped ratios. -/
def tileWords (r : FVec Ideal S128x640 .f32) : IVec S128x640 32 :=
  shrsi (subi (broadcast S128x640 158#32)
      (ctlz (fptosi 32 (mulf (minimumf r (broadcast S128x640 (Scalar.ofBits .f32 0x46FFFE00#32)))
        (minimumf r (broadcast S128x640 (Scalar.ofBits .f32 0x46FFFE00#32)))))))
    (broadcast S128x640 1#32)

/-- The shifted codes of a tile, from its scores. -/
def tileCodes (sc : FVec Ideal S128x640 .f32) : IVec S128x640 32 :=
  tileWords (tileRatios (tileExps (tileHalvings (tileDiffs sc)) (tileSquares (tileDiffs sc) (tileHalvings (tileDiffs sc)))))

/-- The weighted sums of a tile: the powers of two of the codes against the values, times the values' scales. -/
def tileSums (vp : FVec Ideal S640x64 .bf16) (vs : FVec Ideal S1x64 .f32) (cw : IVec S128x640 32) : FVec Ideal S128x64 .f32 :=
  mulf (matmul dot_S128x640_S640x64_S128x64_1_0_0_1_n_n none
      (truncf .bf16 (bitcastToFloat .f32 (shli (subi (broadcast S128x640 190#32) cw) (broadcast S128x640 23#32))) bitsLt_bf16_f32) vp
      (constant S128x64 .f32 0x00000000#32))
    (broadcastTo S128x64 vs broadcasts_S1x64_S128x64)

/-- The scale of each row of a tile's sums. -/
def tileScale (y : FVec Ideal S128x64 .f32) : FVec Ideal S128x1 .f32 :=
  select (cmpf .ogt
      (shapeCast S128x1 (multiReduction .maximumf [1] S128 (absf y) 0xFF800000#32 reduces_S128x64_S128 (.inl rfl) rfl) shapeCasts_S128_S128x1)
      (broadcast S128x1 (Scalar.ofBits .f32 0x00000000#32)))
    (divf (shapeCast S128x1 (multiReduction .maximumf [1] S128 (absf y) 0xFF800000#32 reduces_S128x64_S128 (.inl rfl) rfl) shapeCasts_S128_S128x1)
      (broadcast S128x1 (Scalar.ofBits .f32 0x42FE0000#32)))
    (broadcast S128x1 (Scalar.ofBits .f32 0x3F800000#32))

/-- The quantized sums of a tile, as a block of the first result. -/
def tileQuant (y : FVec Ideal S128x64 .f32) : IVec S1x1x128x64 8 :=
  shapeCast S1x1x128x64
    (fptosi 8 (minimumf (broadcast S128x64 (Scalar.sitofp .f32 127#32))
      (maximumf (broadcast S128x64 (Scalar.sitofp .f32 4294967169#32))
        (roundeven (divf y (broadcastTo S128x64 (tileScale y) broadcasts_S128x1_S128x64))))))
    shapeCasts_S128x64_S1x1x128x64

/-- The scales of a tile turned into a row, as a block of the second result. -/
def tileScaleRow (y : FVec Ideal S128x64 .f32) : FVec Ideal S1x1x1x128 .f32 :=
  shapeCast S1x1x1x128
    (extractStridedSlice S1x128 ![0, 0]
      (transpose S128x128 [1, 0]
        (broadcastTo S128x128 (shapeCast S128x1 (tileScale y) shapeCasts_S128x1_S128x1) broadcasts_S128x1_S128x128)
        transposes_S128x128_p1_0_S128x128)
      slices_S128x128_o0_0_S1x128)
    shapeCasts_S1x128_S1x1x1x128

/-- The codes of the first 512 keys, packed in pairs, as a block of the third result. -/
def tilePackA (cw : IVec S128x640 32) : IVec S1x1x128x256 8 :=
  shapeCast S1x1x128x256
    (trunci 8 (ori
      (extractStridedSlice S128x256 ![0, 0] (subi cw (broadcast S128x640 63#32)) slices_S128x640_o0_0_S128x256)
      (shli (extractStridedSlice S128x256 ![0, 256] (subi cw (broadcast S128x640 63#32)) slices_S128x640_o0_256_S128x256)
        (broadcast S128x256 4#32))) natLt_8_32)
    shapeCasts_S128x256_S1x1x128x256

/-- The codes of the last 128 keys, packed in pairs, as a block of the third result. -/
def tilePackB (cw : IVec S128x640 32) : IVec S1x1x128x64 8 :=
  shapeCast S1x1x128x64
    (trunci 8 (extractStridedSlice S128x64 ![0, 0] (ori
      (extractStridedSlice S128x128 ![0, 512] (subi cw (broadcast S128x640 63#32)) slices_S128x640_o0_512_S128x128)
      (shli (dynamicRotate 1 64#32 none
          (extractStridedSlice S128x128 ![0, 512] (subi cw (broadcast S128x640 63#32)) slices_S128x640_o0_512_S128x128) rotates_S128x128_d1)
        (broadcast S128x128 4#32))) slices_S128x128_o0_0_S128x64) natLt_8_32)
    shapeCasts_S128x64_S1x1x128x64

/-- The row of factors of a head's queries: its scales, times the key scale, times four. -/
def factorRow (qs ks : FVec Ideal S1x640 .f32) : FVec Ideal S1x640 .f32 :=
  mulf (mulf qs ks) (broadcast S1x640 (Scalar.ofBits .f32 0x40800000#32))

/-- The shifted codes of the tile whose first row is `off`: the row's factors are those of its place in the row of factors. -/
def codesAt (off : ℕ) (h : S1x640.Slices ![0, off] S1x128) (kp : FVec Ideal S640x64 .bf16) (qs ks : FVec Ideal S1x640 .f32)
    (q : Vec Ideal S1x1x128x64 .i8) : IVec S128x640 32 :=
  tileCodes (tileScores kp (extractStridedSlice S1x128 ![0, off] (factorRow qs ks) h) q)

variable (kp vp : FVec Ideal S640x64 .bf16) (vs : FVec Ideal S1x64 .f32) (qs ks : FVec Ideal S1x640 .f32) (q : Vec Ideal S1x1x128x64 .i8)

/-! ## The printed payloads of the five tiles: the quantized sums, the scales, the packed codes -/

theorem quant_0 : k0_pay13 vp vs (k0_pay9 kp qs ks q) (Scalar.ofBits .f32 0x46FFFE00#32)
    = tileQuant (tileSums vp vs (codesAt 0 slices_S1x640_o0_0_S1x128 kp qs ks q)) := rfl
theorem scale_0 : k0_pay15 (k0_pay14 vp vs (k0_pay9 kp qs ks q) (Scalar.ofBits .f32 0x46FFFE00#32))
    = tileScaleRow (tileSums vp vs (codesAt 0 slices_S1x640_o0_0_S1x128 kp qs ks q)) := rfl
theorem packA_0 : k0_pay17 (k0_pay10 (k0_pay9 kp qs ks q) (Scalar.ofBits .f32 0x46FFFE00#32))
    = tilePackA (codesAt 0 slices_S1x640_o0_0_S1x128 kp qs ks q) := rfl
theorem packB_0 : k0_pay18 (k0_pay10 (k0_pay9 kp qs ks q) (Scalar.ofBits .f32 0x46FFFE00#32))
    = tilePackB (codesAt 0 slices_S1x640_o0_0_S1x128 kp qs ks q) := rfl
theorem quant_1 : k0_pay24 vs (k0_pay21 vp (k0_pay19 kp (k0_pay8 qs ks) q))
    = tileQuant (tileSums vp vs (codesAt 128 slices_S1x640_o0_128_S1x128 kp qs ks q)) := rfl
theorem scale_1 : k0_pay25 vs (k0_pay21 vp (k0_pay19 kp (k0_pay8 qs ks) q))
    = tileScaleRow (tileSums vp vs (codesAt 128 slices_S1x640_o0_128_S1x128 kp qs ks q)) := rfl
theorem packA_1 : k0_pay30 (k0_pay27 (k0_pay20 (k0_pay19 kp (k0_pay8 qs ks) q)))
    = tilePackA (codesAt 128 slices_S1x640_o0_128_S1x128 kp qs ks q) := rfl
theorem packB_1 : k0_pay31 (k0_pay28 (k0_pay20 (k0_pay19 kp (k0_pay8 qs ks) q))) (k0_pay29 (k0_pay20 (k0_pay19 kp (k0_pay8 qs ks) q))) 4#32
    = tilePackB (codesAt 128 slices_S1x640_o0_128_S1x128 kp qs ks q) := rfl
theorem quant_2 : k0_pay40 (k0_pay38 vp vs (k0_pay33 kp (k0_pay8 qs ks) q) (k0_pay34 kp (k0_pay8 qs ks) q) (Scalar.ofBits .f32 0x44759000#32)) 127#32 k0_pay39
    = tileQuant (tileSums vp vs (codesAt 256 slices_S1x640_o0_256_S1x128 kp qs ks q)) := rfl
theorem scale_2 : k0_pay41 (k0_pay37 vp vs (k0_pay33 kp (k0_pay8 qs ks) q) (k0_pay34 kp (k0_pay8 qs ks) q) (Scalar.ofBits .f32 0x44759000#32))
    = tileScaleRow (tileSums vp vs (codesAt 256 slices_S1x640_o0_256_S1x128 kp qs ks q)) := rfl
theorem packA_2 : k0_pay43 (k0_pay35 (k0_pay33 kp (k0_pay8 qs ks) q) (k0_pay34 kp (k0_pay8 qs ks) q) (Scalar.ofBits .f32 0x44759000#32))
    = tilePackA (codesAt 256 slices_S1x640_o0_256_S1x128 kp qs ks q) := rfl
theorem packB_2 : k0_pay44 (k0_pay35 (k0_pay33 kp (k0_pay8 qs ks) q) (k0_pay34 kp (k0_pay8 qs ks) q) (Scalar.ofBits .f32 0x44759000#32))
    = tilePackB (codesAt 256 slices_S1x640_o0_256_S1x128 kp qs ks q) := rfl
theorem quant_3 : k0_pay49 vp vs (k0_pay45 kp (k0_pay8 qs ks) q)
    = tileQuant (tileSums vp vs (codesAt 384 slices_S1x640_o0_384_S1x128 kp qs ks q)) := rfl
theorem scale_3 : k0_pay51 (k0_pay50 vp vs (k0_pay45 kp (k0_pay8 qs ks) q))
    = tileScaleRow (tileSums vp vs (codesAt 384 slices_S1x640_o0_384_S1x128 kp qs ks q)) := rfl
theorem packA_3 : k0_pay53 (k0_pay46 (k0_pay45 kp (k0_pay8 qs ks) q))
    = tilePackA (codesAt 384 slices_S1x640_o0_384_S1x128 kp qs ks q) := rfl
theorem packB_3 : k0_pay54 (k0_pay46 (k0_pay45 kp (k0_pay8 qs ks) q))
    = tilePackB (codesAt 384 slices_S1x640_o0_384_S1x128 kp qs ks q) := rfl
theorem quant_4 : k0_pay61 (k0_pay58 vp vs (k0_pay55 kp (k0_pay8 qs ks) q) (k0_pay56 kp (k0_pay8 qs ks) q)) (k0_pay59 vp vs (k0_pay55 kp (k0_pay8 qs ks) q) (k0_pay56 kp (k0_pay8 qs ks) q))
    = tileQuant (tileSums vp vs (codesAt 512 slices_S1x640_o0_512_S1x128 kp qs ks q)) := rfl
theorem scale_4 : k0_pay62 (k0_pay59 vp vs (k0_pay55 kp (k0_pay8 qs ks) q) (k0_pay56 kp (k0_pay8 qs ks) q))
    = tileScaleRow (tileSums vp vs (codesAt 512 slices_S1x640_o0_512_S1x128 kp qs ks q)) := rfl
theorem packA_4 : k0_pay1 (k0_pay64 (k0_pay57 (k0_pay55 kp (k0_pay8 qs ks) q) (k0_pay56 kp (k0_pay8 qs ks) q)))
    = tilePackA (codesAt 512 slices_S1x640_o0_512_S1x128 kp qs ks q) := rfl
theorem packB_4 : k0_pay2 (k0_pay65 (k0_pay57 (k0_pay55 kp (k0_pay8 qs ks) q) (k0_pay56 kp (k0_pay8 qs ks) q)))
    = tilePackB (codesAt 512 slices_S1x640_o0_512_S1x128 kp qs ks q) := rfl

end Cert.Attend

end
-- ==== Proof.Row.lean ====
/- One row of the three results, as functions of the row's integer scores, the values and their scales: what both
   programs are shown to compute. -/
module

public import proofs.«01_k».proof.Proof.Scalar

@[expose] public section

noncomputable section

namespace Cert.Attend

open Idealize.ShloMosaic
open scoped BigOperators

/-- The score of a query row `q` (scaled by the factor `f`) against key `j`: the integer nearest their product. -/
def scoreOf (q : Fin 64 → ℤ) (k : Fin 640 → Fin 64 → ℤ) (f : ℝ) (j : Fin 640) : ℤ :=
  Ideal.roundHalfEven (((∑ d, q d * k j d : ℤ) : ℝ) * f)

/-- The power of two of a code: the f32 whose exponent field is 127 less the code. -/
def weight (c : ℕ) : EReal := Ideal.ofBits .f32 (BitVec.ofNat 32 (127 - c) <<< 23)

/-- The row's weighted sums of the values `v`, times the values' scales. -/
def sumOf (s : Fin 640 → ℤ) (v : Fin 640 → Fin 64 → EReal) (vs : Fin 64 → EReal) (d : Fin 64) : EReal :=
  (∑ j, weight (rowCode s j) * v j d) * vs d

/-- The largest magnitude of a row of sums. -/
def magnitude (y : Fin 64 → EReal) : EReal :=
  (Finset.univ : Finset (Fin 64)).fold max (Ideal.ofBits .f32 0xFF800000#32) fun d => max (y d) (-(y d))

/-- The scale of a row of sums: its largest magnitude over 127, or one. -/
def scaleOf (y : Fin 64 → EReal) : EReal :=
  if 0 < magnitude y then Ideal.div (magnitude y) (Ideal.ofBits .f32 0x42FE0000#32) else 1

/-- An element of a row of sums over the row's scale, rounded and clipped to ±127. -/
def clipOf (y : Fin 64 → EReal) (d : Fin 64) : EReal :=
  min (((127#32).toInt : ℝ) : EReal) (max (((4294967169#32).toInt : ℝ) : EReal)
    (Ideal.liftRound Ideal.roundHalfEven (Ideal.div (y d) (scaleOf y))))

/-- The quantized element: the clipped one as a byte. -/
def quantOf (y : Fin 64 → EReal) (d : Fin 64) : BitVec 8 := Ideal.fptosi 8 (clipOf y d)

/-- Two codes in one byte, the first in the low half. -/
def pack (a b : ℕ) : BitVec 8 := BitVec.setWidth 8 (BitVec.ofNat 32 a ||| BitVec.ofNat 32 b <<< 4)

/-- Byte `n` of a row of packed codes: those of keys `2 n` and `2 n + 1`. -/
def pack8 (s : Fin 640 → ℤ) (n : Fin 320) : BitVec 8 :=
  pack (rowCode s ⟨2 * n.val, by omega⟩) (rowCode s ⟨2 * n.val + 1, by omega⟩)

/-! ## Scores are small integers -/

/-- The products of two rows of bytes sum to at most `2^20`. -/
theorem abs_dot_le (q k : Fin 64 → ℤ) (hq : ∀ d, |q d| ≤ 128) (hk : ∀ d, |k d| ≤ 128) : |∑ d, q d * k d| ≤ 2 ^ 20 := by
  refine (Finset.abs_sum_le_sum_abs _ _).trans ?_
  have h : ∀ d ∈ (Finset.univ : Finset (Fin 64)), |q d * k d| ≤ 128 * 128 := fun d _ => by
    rw [abs_mul]; exact mul_le_mul (hq d) (hk d) (abs_nonneg _) (by norm_num)
  refine (Finset.sum_le_sum h).trans ?_
  simp

theorem scoreOf_le (q : Fin 64 → ℤ) (k : Fin 640 → Fin 64 → ℤ) (f : ℝ) (hq : ∀ d, |q d| ≤ 128) (hk : ∀ j d, |k j d| ≤ 128)
    (hf : |f| ≤ 512) (j : Fin 640) : |scoreOf q k f j| ≤ 2 ^ 29 := by
  unfold scoreOf
  apply abs_roundHalfEven_le
  have h : |((∑ d, q d * k j d : ℤ) : ℝ)| ≤ 2 ^ 20 := by exact_mod_cast abs_dot_le q (k j) hq (hk j)
  rw [abs_mul]
  push_cast at h ⊢
  calc _ ≤ (2 : ℝ) ^ 20 * 512 := mul_le_mul h hf (abs_nonneg _) (by norm_num)
    _ ≤ _ := by norm_num

/-- A signed byte's magnitude is at most 128. -/
theorem abs_toInt_le (b : BitVec 8) : |b.toInt| ≤ 128 := by
  rw [abs_le]; have := b.isLt; rw [BitVec.toInt_eq_toNat_cond]; split <;> omega

/-- A sum of products of integers, taken in the extended reals, is the integer sum. -/
theorem sum_coe {n : ℕ} (a b : Fin n → ℤ) :
    (∑ d, ((a d : ℝ) : EReal) * ((b d : ℝ) : EReal)) = (((∑ d, a d * b d : ℤ) : ℝ) : EReal) := by
  have h : ∀ (S : Finset (Fin n)), (∑ d ∈ S, ((a d : ℝ) : EReal) * ((b d : ℝ) : EReal)) = (((∑ d ∈ S, a d * b d : ℤ) : ℝ) : EReal) := by
    intro S
    induction S using Finset.cons_induction with
    | empty => simp
    | cons i S hi ih => rw [Finset.sum_cons, Finset.sum_cons, ih, ← EReal.coe_mul, ← EReal.coe_add]; push_cast; rfl
  exact h Finset.univ

/-- A sum of integers, taken in the extended reals, is the integer sum. -/
theorem sum_coe_one {n : ℕ} (a : Fin n → ℤ) : (∑ d, ((a d : ℝ) : EReal)) = (((∑ d, a d : ℤ) : ℝ) : EReal) := by
  have h := sum_coe a (fun _ => 1)
  simpa using h

/-- The rounded product of two rows of bytes, taken in the extended reals, is the integer score. -/
theorem score_coe (q : Fin 64 → ℤ) (k : Fin 640 → Fin 64 → ℤ) (f : ℝ) (j : Fin 640) :
    Ideal.liftRound Ideal.roundHalfEven ((∑ d, ((q d : ℝ) : EReal) * ((k j d : ℝ) : EReal)) * ((f : ℝ) : EReal))
      = ((scoreOf q k f j : ℝ) : EReal) := by
  rw [sum_coe, ← EReal.coe_mul, Ideal.liftRound_coe]; rfl

/-- The largest of a family of extended reals taken as a fold from `⊥` is the supremum. -/
theorem fold_max_eq_sup {n : ℕ} (x : Fin n → EReal) :
    (Finset.univ : Finset (Fin n)).fold max (Ideal.ofBits .f32 0xFF800000#32) x = Finset.univ.sup x := by
  rw [c_bot]; rfl

/-- The largest of a row of integer scores, taken in the extended reals in any order of the keys. -/
theorem fold_max_coe (s : Fin 640 → ℤ) (g : Fin 640 ≃ Fin 640) :
    (Finset.univ : Finset (Fin 640)).fold max (Ideal.ofBits .f32 0xFF800000#32) (fun p => ((s (g p) : ℝ) : EReal))
      = ((rowMax s : ℝ) : EReal) := by
  rw [fold_max_eq_sup]
  apply le_antisymm
  · exact Finset.sup_le fun p _ => by exact_mod_cast le_rowMax s (g p)
  · obtain ⟨j, hj⟩ := exists_rowMax s
    have := Finset.le_sup (f := fun p => ((s (g p) : ℝ) : EReal)) (Finset.mem_univ (g.symm j))
    simpa [hj] using this

/-! ## The order in which the kernel keeps the keys -/

/-- The key at the kernel's place `p`: the even keys below 512, the odd ones, the even keys from 512, the odd ones. -/
def keyAt (p : Fin 640) : Fin 640 :=
  if h : p.val < 256 then ⟨2 * p.val, by omega⟩
  else if h1 : p.val < 512 then ⟨2 * (p.val - 256) + 1, by omega⟩
  else if h2 : p.val < 576 then ⟨2 * (p.val - 256), by omega⟩
  else ⟨2 * (p.val - 320) + 1, by omega⟩

theorem keyAt_val (p : Fin 640) : (keyAt p).val = if p.val < 256 then 2 * p.val else if p.val < 512 then 2 * (p.val - 256) + 1
    else if p.val < 576 then 2 * (p.val - 256) else 2 * (p.val - 320) + 1 := by
  unfold keyAt; split_ifs <;> rfl

theorem keyAt_injective : Function.Injective keyAt := by
  intro p p' h
  unfold keyAt at h
  apply Fin.ext
  split_ifs at h <;> simp only [Fin.mk.injEq] at h <;> omega

/-- The kernel's order of the keys as a permutation. -/
def keyPerm : Fin 640 ≃ Fin 640 := Equiv.ofBijective keyAt (Finite.injective_iff_bijective.mp keyAt_injective)

theorem keyPerm_apply (p : Fin 640) : keyPerm p = keyAt p := rfl

end Cert.Attend

end
-- ==== Proof.TileValue.lean ====
/- A tile of 128 rows read element by element: on the scores of integer rows the four stages give the row functions. -/
module

public import proofs.«01_k».proof.Proof.Tile
public import proofs.«01_k».proof.Proof.Row
public import Idealize.ShloMosaic.Lib.Pointwise

@[expose] public section

noncomputable section

namespace Cert.Attend

open Idealize.ShloMosaic Cert.KernelIdeal Cert.KernelIdeal.Gen
open Idealize.ShloMosaic.Pointwise
open scoped BigOperators

/-- The keys (or the values) in the kernel's order, converted: the element at place `p` is the integer of key `keyAt p`. -/
theorem permuted_apply (k : Vec Ideal S1x1x640x64 .i8) (p : Fin 640) (d : Fin 64) :
    k0_pay3 (F := Ideal) k (ix2 p d) = (((k (ix4 0 0 (keyAt p) d)).toInt : ℝ) : EReal) := by
  pointwise [k0_pay3]
  have hp := p.isLt
  split_ifs <;> refine congrArg (fun j => (((k (ix4 0 0 j d)).toInt : ℝ) : EReal)) (Fin.ext ?_) <;> rw [keyAt_val] <;>
    dsimp only <;> split_ifs <;> omega

/-- The values are converted and ordered as the keys are. -/
theorem permuted_values (v : Vec Ideal S1x1x640x64 .i8) : k0_pay4 (F := Ideal) v = k0_pay3 v := rfl

/-- A tile's scores at a row and a place, for a row factor that is a real. -/
theorem tileScores_apply (k : Vec Ideal S1x1x640x64 .i8) (mt : FVec Ideal S1x128 .f32) (q : Vec Ideal S1x1x128x64 .i8) (r : Fin 128)
    (f : ℝ) (hf : mt (ix2 0 r) = (f : EReal)) (p : Fin 640) :
    tileScores (k0_pay3 k) mt q (ix2 r p)
      = ((scoreOf (fun d => (q (ix4 0 0 r d)).toInt) (fun j d => (k (ix4 0 0 j d)).toInt) f (keyPerm p) : ℝ) : EReal) := by
  pointwise [tileScores]
  rw [hf, ← score_coe]
  refine congrArg (fun z => Ideal.liftRound Ideal.roundHalfEven (z * (f : EReal))) (Finset.sum_congr rfl fun d _ => ?_)
  rw [permuted_apply]
  rfl

/-- A tile's shifted codes at a row whose scores are the integers `s` in the kernel's order. -/
theorem tileCodes_apply (sc : FVec Ideal S128x640 .f32) (r : Fin 128) (s : Fin 640 → ℤ) (hs : ∀ j, |s j| ≤ 2 ^ 29)
    (hsc : ∀ p, sc (ix2 r p) = ((s (keyPerm p) : ℝ) : EReal)) (p : Fin 640) :
    tileCodes sc (ix2 r p) = BitVec.ofNat 32 (rowCode s (keyPerm p) + 63) := by
  have hd : ∀ p, tileDiffs sc (ix2 r p) = (((-(rowMax s - s (keyPerm p)) : ℤ) : ℝ) : EReal) := by
    intro p
    pointwise [tileDiffs]
    simp only [hsc]
    rw [fold_max_coe, ← EReal.coe_sub]
    rw [neg_sub, Int.cast_sub]
  have he : ∀ p, tileExps (tileHalvings (tileDiffs sc)) (tileSquares (tileDiffs sc) (tileHalvings (tileDiffs sc))) (ix2 r p)
      = ((rowExp s (keyPerm p) : ℝ) : EReal) := by
    intro p
    refine Eq.trans (b := kexp (tileDiffs sc (ix2 r p))) ?_ ?_
    · generalize tileDiffs sc = w
      unfold kexp
      pointwise [tileExps, tileHalvings, tileSquares]
      rfl
    rw [hd, kexp_eq _ (dist_bounds s hs _).1 (dist_bounds s hs _).2]
    rfl
  refine Eq.trans (b := kword (∑ x, tileExps (tileHalvings (tileDiffs sc)) (tileSquares (tileDiffs sc) (tileHalvings (tileDiffs sc))) (ix2 r x))
    (tileExps (tileHalvings (tileDiffs sc)) (tileSquares (tileDiffs sc) (tileHalvings (tileDiffs sc))) (ix2 r p))) ?_ ?_
  · unfold tileCodes kword kratio
    pointwise [tileWords, tileRatios]
    rfl
  · simp only [he]
    rw [sum_coe_one, Equiv.sum_comp keyPerm (rowExp s)]
    exact kword_eq _ _ (rowExp_bounds s hs _).1 (rowExp_le_rowSum s hs _) (by have := (rowSum_bounds s hs).1; unfold rowSum at this; omega)
      (rowSum_bounds s hs).2

/-- 190 less a shifted code, moved to the exponent field, is the word of the code's power of two. -/
theorem weight_of_word (c : ℕ) (hc : c ≤ 15) :
    Ideal.ofBits .f32 (IntOp.shli .vector (IntOp.subi 190#32 (BitVec.ofNat 32 (c + 63))) 23#32) = weight c := by
  refine congrArg (Ideal.ofBits .f32) ?_
  interval_cases c <;> decide +kernel

/-- A tile's weighted sums at a row whose shifted codes are those of `s`. -/
theorem tileSums_apply (v : Vec Ideal S1x1x640x64 .i8) (vs : FVec Ideal S1x64 .f32) (cw : IVec S128x640 32) (r : Fin 128)
    (s : Fin 640 → ℤ) (hs : ∀ j, |s j| ≤ 2 ^ 29) (hcw : ∀ p, cw (ix2 r p) = BitVec.ofNat 32 (rowCode s (keyPerm p) + 63)) (d : Fin 64) :
    tileSums (k0_pay4 v) vs cw (ix2 r d)
      = sumOf s (fun j d => (((v (ix4 0 0 j d)).toInt : ℝ) : EReal)) (fun d => vs (ix2 0 d)) d := by
  unfold sumOf
  pointwise [tileSums]
  refine congrArg (· * vs (ix2 0 d)) ?_
  rw [← Equiv.sum_comp keyPerm fun j => weight (rowCode s j) * (((v (ix4 0 0 j d)).toInt : ℝ) : EReal)]
  refine Finset.sum_congr rfl fun p _ => ?_
  rw [hcw, weight_of_word _ (rowCode_le s hs _), permuted_values, permuted_apply, keyPerm_apply]

/-- A tile's scale at a row. -/
theorem tileScale_apply (y : FVec Ideal S128x64 .f32) (r : Fin 128) : tileScale y (ix2 r 0) = scaleOf fun d => y (ix2 r d) := by
  unfold scaleOf magnitude
  pointwise [tileScale]
  rfl

/-- A tile's quantized block at a row and a column. -/
theorem tileQuant_apply (y : FVec Ideal S128x64 .f32) (r : Fin 128) (d : Fin 64) :
    tileQuant y (ix4 0 0 r d) = quantOf (fun d => y (ix2 r d)) d := by
  unfold quantOf clipOf
  pointwise [tileQuant]
  rw [tileScale_apply]
  rfl

/-- A tile's row of scales at a row. -/
theorem tileScaleRow_apply (y : FVec Ideal S128x64 .f32) (r : Fin 128) : tileScaleRow y (ix4 0 0 0 r) = scaleOf fun d => y (ix2 r d) := by
  pointwise [tileScaleRow]
  exact tileScale_apply y r

/-- Two shifted codes less 63, put in one byte. -/
theorem pack_of_words (a b : ℕ) (ha : a ≤ 15) (hb : b ≤ 15) :
    BitVec.setWidth 8 (IntOp.ori (IntOp.subi (BitVec.ofNat 32 (a + 63)) 63#32)
      (IntOp.shli .vector (IntOp.subi (BitVec.ofNat 32 (b + 63)) 63#32) 4#32)) = pack a b := by
  unfold pack
  interval_cases a <;> interval_cases b <;> decide +kernel

/-- A tile's first packed block: byte `n` holds the codes of keys `2 n` and `2 n + 1`. -/
theorem tilePackA_apply (cw : IVec S128x640 32) (r : Fin 128) (s : Fin 640 → ℤ) (hs : ∀ j, |s j| ≤ 2 ^ 29)
    (hcw : ∀ p, cw (ix2 r p) = BitVec.ofNat 32 (rowCode s (keyPerm p) + 63)) (n : Fin 256) :
    tilePackA cw (ix4 0 0 r n) = pack (rowCode s ⟨2 * n.val, by omega⟩) (rowCode s ⟨2 * n.val + 1, by omega⟩) := by
  have hn := n.isLt
  pointwise [tilePackA]
  rw [hcw, hcw, pack_of_words _ _ (rowCode_le s hs _) (rowCode_le s hs _)]
  congr 2
  · rw [keyPerm_apply]; apply Fin.ext; rw [keyAt_val]; dsimp only; split_ifs <;> omega
  · rw [keyPerm_apply]; apply Fin.ext; rw [keyAt_val]; dsimp only; split_ifs <;> omega

/-- A tile's second packed block: byte `256 + n` holds the codes of the keys `512 + 2 n` and `512 + 2 n + 1`. -/
theorem tilePackB_apply (cw : IVec S128x640 32) (r : Fin 128) (s : Fin 640 → ℤ) (hs : ∀ j, |s j| ≤ 2 ^ 29)
    (hcw : ∀ p, cw (ix2 r p) = BitVec.ofNat 32 (rowCode s (keyPerm p) + 63)) (n : Fin 64) :
    tilePackB cw (ix4 0 0 r n) = pack (rowCode s ⟨2 * (256 + n.val), by omega⟩) (rowCode s ⟨2 * (256 + n.val) + 1, by omega⟩) := by
  have hn := n.isLt
  pointwise [tilePackB]
  rw [hcw, hcw, pack_of_words _ _ (rowCode_le s hs _) (rowCode_le s hs _)]
  congr 2
  · rw [keyPerm_apply]; apply Fin.ext; rw [keyAt_val]; dsimp only; split_ifs <;> omega
  · rw [keyPerm_apply]; apply Fin.ext; rw [keyAt_val]; dsimp only; split_ifs <;> omega

end Cert.Attend

end
-- ==== Proof.Block.lean ====
/- What one block computes: the five tiles' stores, read together, give every row of the block the row functions of its
   integer scores. -/
module

public import proofs.«01_k».proof.Proof.TileValue
public import proofs.«01_k».proof.Proof.Gen.KernelIdeal.Frame
public import Idealize.ShloMosaic.Lib.Pipeline.Value

@[expose] public section

noncomputable section

namespace Cert.Attend

open Idealize.ShloMosaic Cert.KernelIdeal Cert.KernelIdeal.Gen
open Idealize.ShloMosaic.TcCoe Idealize.ShloMosaic.Tactic
open Idealize.ShloMosaic.Pointwise

/-- The integer scores of row `r` of a block of queries `x` against a block of keys `k`, at the row's factor. -/
def scoresAt (x k : Vec Ideal S1x1x640x64 .i8) (f : Fin 640 → ℝ) (r : Fin 640) : Fin 640 → ℤ :=
  scoreOf (fun d => (x (ix4 0 0 r d)).toInt) (fun j d => (k (ix4 0 0 j d)).toInt) (f r)

theorem scoresAt_le (x k : Vec Ideal S1x1x640x64 .i8) (f : Fin 640 → ℝ) (r : Fin 640) (hf : |f r| ≤ 512) (j : Fin 640) :
    |scoresAt x k f r j| ≤ 2 ^ 29 :=
  scoreOf_le _ _ _ (fun _ => abs_toInt_le _) (fun _ _ => abs_toInt_le _) hf j

/-- The weighted sums of row `r` of a block, for the values `v` and their scales `vs`. -/
def sumsAt (x k v : Vec Ideal S1x1x640x64 .i8) (f : Fin 640 → ℝ) (vs : Fin 64 → EReal) (r : Fin 640) : Fin 64 → EReal :=
  sumOf (scoresAt x k f r) (fun j d => (((v (ix4 0 0 j d)).toInt : ℝ) : EReal)) vs

/-- The packed byte `n` of row `r` of a block. -/
def packAt (x k : Vec Ideal S1x1x640x64 .i8) (f : Fin 640 → ℝ) (r : Fin 640) (n : Fin 320) : BitVec 8 :=
  pack8 (scoresAt x k f r) n

/-- Row `r` of the tile whose first row is `off`. -/
def rowAt (off : ℕ) (h : off + 128 ≤ 640) (r : Fin 128) : Fin 640 := ⟨off + r.val, by omega⟩

section tiles

variable (x k v : Vec Ideal S1x1x640x64 .i8) (qs ks : FVec Ideal S1x640 .f32) (vs : FVec Ideal S1x64 .f32) (f : Fin 640 → ℝ)
variable (off : ℕ) (hoff : off + 128 ≤ 640) (hsl : S1x640.Slices ![0, off] S1x128)
variable (inb : ∀ a, (![0, 0, off, 0] : Fin 4 → Nat) a + (![1, 1, 128, 64] : Fin 4 → Nat) a ≤ S1x1x640x64.size a)

/-- The tile of queries whose first row is `off`. -/
abbrev tileAt : Vec Ideal S1x1x128x64 .i8 := View.ld (Val := Elt Ideal) x (Rect.unit ![0, 0, off, 0] ![1, 1, 128, 64] inb)

variable (hf : ∀ r, factorRow qs ks (ix2 0 r) = (f r : EReal)) (hfb : ∀ r, |f r| ≤ 512)

include hoff hf hfb

/-- The shifted codes of the tile at `off` are those of its rows' scores. -/
theorem codesAt_apply (r : Fin 128) (p : Fin 640) : codesAt off hsl (k0_pay3 k) qs ks (tileAt x off inb) (ix2 r p)
    = BitVec.ofNat 32 (rowCode (scoresAt x k f (rowAt off hoff r)) (keyPerm p) + 63) := by
  refine tileCodes_apply _ r _ (scoresAt_le x k f _ (hfb _)) (fun p => ?_) p
  have hm : extractStridedSlice S1x128 ![0, off] (factorRow qs ks) hsl (ix2 0 r) = (f (rowAt off hoff r) : EReal) := by
    rw [← hf]; pointwise; rfl
  have hq : ∀ d, tileAt x off inb (ix4 0 0 r d) = x (ix4 0 0 (rowAt off hoff r) d) := by
    intro d; unfold tileAt; pointwise; rfl
  rw [tileScores_apply k _ _ r _ hm p]
  simp only [hq]
  rfl

/-- The sums of the tile at `off` are those of its rows. -/
theorem sumsAt_apply (r : Fin 128) (d : Fin 64) :
    tileSums (k0_pay4 v) vs (codesAt off hsl (k0_pay3 k) qs ks (tileAt x off inb)) (ix2 r d)
      = sumsAt x k v f (fun d => vs (ix2 0 d)) (rowAt off hoff r) d :=
  tileSums_apply v vs _ r _ (scoresAt_le x k f _ (hfb _)) (codesAt_apply x k qs ks f off hoff hsl inb hf hfb r) d

/-- The store of the tile at `off` to the first result. -/
theorem quant_piece (x' : (Rect.unit (s := S1x1x640x64) ![0, 0, off, 0] ![1, 1, 128, 64] inb).shape.Idx) :
    tileQuant (tileSums (k0_pay4 v) vs (codesAt off hsl (k0_pay3 k) qs ks (tileAt x off inb))) x'
      = (fun y : S1x1x640x64.Idx => quantOf (sumsAt x k v f (fun d => vs (ix2 0 d)) (y 2)) (y 3))
        ((Rect.unit (s := S1x1x640x64) ![0, 0, off, 0] ![1, 1, 128, 64] inb).emb x') := by
  obtain ⟨a, b, r, d, rfl⟩ : ∃ (a b : Fin 1) (r : Fin 128) (d : Fin 64), x' = ix4 a b r d := ⟨x' 0, x' 1, x' 2, x' 3, eq_ix4 x'⟩
  obtain rfl : a = 0 := Subsingleton.elim _ _
  obtain rfl : b = 0 := Subsingleton.elim _ _
  have h2 : (Rect.unit (s := S1x1x640x64) ![0, 0, off, 0] ![1, 1, 128, 64] inb).emb (ix4 0 0 r d) 2 = rowAt off hoff r :=
    Fin.ext (by simp [rowAt, Rect.emb, Rect.unit])
  have h3 : (Rect.unit (s := S1x1x640x64) ![0, 0, off, 0] ![1, 1, 128, 64] inb).emb (ix4 0 0 r d) 3 = d :=
    Fin.ext (by simp [Rect.emb, Rect.unit])
  dsimp only
  rw [h2, h3]
  refine (tileQuant_apply _ r d).trans ?_
  simp only [sumsAt_apply x k v qs ks vs f off hoff hsl inb hf hfb r]

/-- The store of the tile at `off` to the second result. -/
theorem scale_piece (inb7 : ∀ a, (![0, 0, 0, off] : Fin 4 → Nat) a + (![1, 1, 1, 128] : Fin 4 → Nat) a ≤ S1x1x1x640.size a)
    (x' : (Rect.unit (s := S1x1x1x640) ![0, 0, 0, off] ![1, 1, 1, 128] inb7).shape.Idx) :
    tileScaleRow (tileSums (k0_pay4 v) vs (codesAt off hsl (k0_pay3 k) qs ks (tileAt x off inb))) x'
      = (fun y : S1x1x1x640.Idx => scaleOf (sumsAt x k v f (fun d => vs (ix2 0 d)) (y 3)))
        ((Rect.unit (s := S1x1x1x640) ![0, 0, 0, off] ![1, 1, 1, 128] inb7).emb x') := by
  obtain ⟨a, b, c, r, rfl⟩ : ∃ (a b c : Fin 1) (r : Fin 128), x' = ix4 a b c r := ⟨x' 0, x' 1, x' 2, x' 3, eq_ix4 x'⟩
  obtain rfl : a = 0 := Subsingleton.elim _ _
  obtain rfl : b = 0 := Subsingleton.elim _ _
  obtain rfl : c = 0 := Subsingleton.elim _ _
  have h3 : (Rect.unit (s := S1x1x1x640) ![0, 0, 0, off] ![1, 1, 1, 128] inb7).emb (ix4 0 0 0 r) 3 = rowAt off hoff r :=
    Fin.ext (by simp [rowAt, Rect.emb, Rect.unit])
  dsimp only
  rw [h3]
  refine (tileScaleRow_apply _ r).trans ?_
  simp only [sumsAt_apply x k v qs ks vs f off hoff hsl inb hf hfb r]

/-- The first store of the tile at `off` to the third result: the bytes of the first 512 keys. -/
theorem packA_piece (inb8 : ∀ a, (![0, 0, off, 0] : Fin 4 → Nat) a + (![1, 1, 128, 256] : Fin 4 → Nat) a ≤ S1x1x640x320.size a)
    (x' : (Rect.unit (s := S1x1x640x320) ![0, 0, off, 0] ![1, 1, 128, 256] inb8).shape.Idx) :
    tilePackA (codesAt off hsl (k0_pay3 k) qs ks (tileAt x off inb)) x'
      = (fun y : S1x1x640x320.Idx => packAt x k f (y 2) (y 3))
        ((Rect.unit (s := S1x1x640x320) ![0, 0, off, 0] ![1, 1, 128, 256] inb8).emb x') := by
  obtain ⟨a, b, r, n, rfl⟩ : ∃ (a b : Fin 1) (r : Fin 128) (n : Fin 256), x' = ix4 a b r n := ⟨x' 0, x' 1, x' 2, x' 3, eq_ix4 x'⟩
  obtain rfl : a = 0 := Subsingleton.elim _ _
  obtain rfl : b = 0 := Subsingleton.elim _ _
  have h2 : (Rect.unit (s := S1x1x640x320) ![0, 0, off, 0] ![1, 1, 128, 256] inb8).emb (ix4 0 0 r n) 2 = rowAt off hoff r :=
    Fin.ext (by simp [rowAt, Rect.emb, Rect.unit])
  have h3 : (Rect.unit (s := S1x1x640x320) ![0, 0, off, 0] ![1, 1, 128, 256] inb8).emb (ix4 0 0 r n) 3 = (⟨n.val, by have := n.isLt; omega⟩ : Fin 320) :=
    Fin.ext (by simp [Rect.emb, Rect.unit])
  dsimp only
  rw [h2, h3]
  exact tilePackA_apply _ r _ (scoresAt_le x k f _ (hfb _)) (codesAt_apply x k qs ks f off hoff hsl inb hf hfb r) n

/-- The second store of the tile at `off` to the third result: the bytes of the last 128 keys. -/
theorem packB_piece (inb8 : ∀ a, (![0, 0, off, 256] : Fin 4 → Nat) a + (![1, 1, 128, 64] : Fin 4 → Nat) a ≤ S1x1x640x320.size a)
    (x' : (Rect.unit (s := S1x1x640x320) ![0, 0, off, 256] ![1, 1, 128, 64] inb8).shape.Idx) :
    tilePackB (codesAt off hsl (k0_pay3 k) qs ks (tileAt x off inb)) x'
      = (fun y : S1x1x640x320.Idx => packAt x k f (y 2) (y 3))
        ((Rect.unit (s := S1x1x640x320) ![0, 0, off, 256] ![1, 1, 128, 64] inb8).emb x') := by
  obtain ⟨a, b, r, n, rfl⟩ : ∃ (a b : Fin 1) (r : Fin 128) (n : Fin 64), x' = ix4 a b r n := ⟨x' 0, x' 1, x' 2, x' 3, eq_ix4 x'⟩
  obtain rfl : a = 0 := Subsingleton.elim _ _
  obtain rfl : b = 0 := Subsingleton.elim _ _
  have h2 : (Rect.unit (s := S1x1x640x320) ![0, 0, off, 256] ![1, 1, 128, 64] inb8).emb (ix4 0 0 r n) 2 = rowAt off hoff r :=
    Fin.ext (by simp [rowAt, Rect.emb, Rect.unit])
  have h3 : (Rect.unit (s := S1x1x640x320) ![0, 0, off, 256] ![1, 1, 128, 64] inb8).emb (ix4 0 0 r n) 3 = (⟨256 + n.val, by have := n.isLt; omega⟩ : Fin 320) :=
    Fin.ext (by simp [Rect.emb, Rect.unit])
  dsimp only
  rw [h2, h3]
  exact tilePackB_apply _ r _ (scoresAt_le x k f _ (hfb _)) (codesAt_apply x k qs ks f off hoff hsl inb hf hfb r) n

end tiles

/-! ## The block -/

/-- A grid coordinate's word, read back. -/
theorem word_toNat (n : ℕ) (h : n < 32) : BitVec.toNat (Scalar.indexCast (BitVec.ofNat 32 n)) = n := by
  interval_cases n <;> decide

/-- The row of factors of batch `b` and head `h`, element by element. -/
theorem factorRow_apply (x1 : Vec Ideal S1x32x640 .f32) (x3 : Vec Ideal S3x32 .f32) (b : Fin 3) (h : Fin 32)
    (inb1 : ∀ a, (![0, BitVec.toNat (Scalar.indexCast (BitVec.ofNat 32 h.val)), 0] : Fin 3 → Nat) a + (![1, 1, 640] : Fin 3 → Nat) a ≤ S1x32x640.size a)
    (inb3 : ∀ a, (![BitVec.toNat (Scalar.indexCast (BitVec.ofNat 32 b.val)), BitVec.toNat (Scalar.indexCast (BitVec.ofNat 32 h.val))] : Fin 2 → Nat) a + (![1, 1] : Fin 2 → Nat) a ≤ S3x32.size a)
    (h1) (r : Fin 640) :
    factorRow (k0_pay6 (View.ld (Val := Elt Ideal) x1 (Rect.unit ![0, BitVec.toNat (Scalar.indexCast (BitVec.ofNat 32 h.val)), 0] ![1, 1, 640] inb1)))
      (k0_pay7 (View.ld (Val := Elt Ideal) x3 (Rect.unit ![BitVec.toNat (Scalar.indexCast (BitVec.ofNat 32 b.val)), BitVec.toNat (Scalar.indexCast (BitVec.ofNat 32 h.val))] ![1, 1] inb3)
        (Shape.Idx.first h1))) (ix2 0 r)
      = x1 (ix3 0 h r) * x3 (ix2 b h) * Ideal.ofBits .f32 0x40800000#32 := by
  pointwise [factorRow, k0_pay6, k0_pay7]
  exact congrArg₂ (fun a b => a * b * _) (congrArg (fun h => x1 (ix3 0 h r)) (Fin.ext (word_toNat _ h.isLt)))
    (congrArg₂ (fun b h => x3 (ix2 b h)) (Fin.ext (word_toNat _ (by have := b.isLt; omega))) (Fin.ext (word_toNat _ h.isLt)))

/-- The row of value scales of head `h`, element by element. -/
theorem valueScales_apply (x5 : Vec Ideal S1x32x64 .f32) (h : Fin 32)
    (inb5 : ∀ a, (![0, BitVec.toNat (Scalar.indexCast (BitVec.ofNat 32 h.val)), 0] : Fin 3 → Nat) a + (![1, 1, 64] : Fin 3 → Nat) a ≤ S1x32x64.size a) (d : Fin 64) :
    k0_pay5 (View.ld (Val := Elt Ideal) x5 (Rect.unit ![0, BitVec.toNat (Scalar.indexCast (BitVec.ofNat 32 h.val)), 0] ![1, 1, 64] inb5)) (ix2 0 d) = x5 (ix3 0 h d) := by
  pointwise [k0_pay5]
  exact congrArg (fun h => x5 (ix3 0 h d)) (Fin.ext (word_toNat _ h.isLt))

section block

variable (c : Dev nD)
  (i : grid0.Coords)
  (arg2 : Memref sig .tc .vmem S1x1x640x64 .i8)
  (harg2 : arg2.IsWhole)
  (arg3 : Memref sig .tc .vmem S1x32x640 .f32)
  (harg3 : arg3.IsWhole)
  (arg4 : Memref sig .tc .vmem S1x1x640x64 .i8)
  (harg4 : arg4.IsWhole)
  (arg5 : Memref sig .tc .smem S3x32 .f32)
  (harg5 : arg5.IsWhole)
  (arg6 : Memref sig .tc .vmem S1x1x640x64 .i8)
  (harg6 : arg6.IsWhole)
  (arg7 : Memref sig .tc .vmem S1x32x64 .f32)
  (harg7 : arg7.IsWhole)
  (arg8 : Memref sig .tc .vmem S1x1x640x64 .i8)
  (harg8 : arg8.IsWhole)
  (arg9 : Memref sig .tc .vmem S1x1x1x640 .f32)
  (harg9 : arg9.IsWhole)
  (arg10 : Memref sig .tc .vmem S1x1x640x320 .i8)
  (harg10 : arg10.IsWhole)
  (x0 : Vec Ideal S1x1x640x64 .i8) (x1 : Vec Ideal S1x32x640 .f32) (x2 : Vec Ideal S1x1x640x64 .i8) (x3 : Vec Ideal S3x32 .f32)
  (x4 : Vec Ideal S1x1x640x64 .i8) (x5 : Vec Ideal S1x32x64 .f32) (f : Fin 640 → ℝ)

set_option maxRecDepth 65536 in
/-- The block of the first result. -/
theorem out6_eq (hf : ∀ r, x1 (ix3 0 (i 1) r) * x3 (ix2 (i 0) (i 1)) * Ideal.ofBits .f32 0x40800000#32 = (f r : EReal))
    (hfb : ∀ r, |f r| ≤ 512) (y : S1x1x640x64.Idx) :
    out0_A_6 c i arg2 harg2 arg3 harg3 arg4 harg4 arg5 harg5 arg6 harg6 arg7 harg7 arg8 harg8 arg9 harg9 arg10 harg10 x0 x1 x2 x3 x4 x5 y
      = quantOf (sumsAt x0 x2 x4 f (fun d => x5 (ix3 0 (i 1) d)) (y 2)) (y 3) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  refine View.canon_apply_of_pieces (fun y : S1x1x640x64.Idx => quantOf (sumsAt x0 x2 x4 f (fun d => x5 (ix3 0 (i 1) d)) (y 2)) (y 3)) _ ?_ y
    (cover0_A_6 c i arg2 harg2 arg3 harg3 arg4 harg4 arg5 harg5 arg6 harg6 arg7 harg7 arg8 harg8 arg9 harg9 arg10 harg10 x0 x1 x2 x3 x4 x5 y)
  unfold kernelRun0_A
  dsimp only
  sl_unfold_words
  simp only [View.readAt_eq_ld, harg2.read_unread, harg3.read_unread, harg4.read_unread, harg5.read_unread, harg6.read_unread,
    harg7.read_unread]
  rw [View.ld_unit_zero (by decide) inb_S1x1x640x64_S1x1x640x64_0_0_0_0 x2,
    View.ld_unit_zero (by decide) inb_S1x1x640x64_S1x1x640x64_0_0_0_0 x4]
  have hF := fun inb1 inb3 h1 r => (factorRow_apply x1 x3 (i 0) (i 1) inb1 inb3 h1 r).trans (hf r)
  have hV := valueScales_apply x5 (i 1)
  simp only [List.forall_mem_cons]
  refine ⟨?_, ?_, ?_, ?_, ?_, fun _ h => absurd h List.not_mem_nil⟩ <;> intro x'
  · refine (congrFun (quant_4 _ _ _ _ _ _) x').trans ((quant_piece x0 x2 x4 _ _ _ f 512 (by decide) _ _ (hF _ _ _) hfb x').trans ?_)
    exact congrArg (fun z => quantOf (sumsAt x0 x2 x4 f z _) _) (funext fun d => hV _ d)
  · refine (congrFun (quant_3 _ _ _ _ _ _) x').trans ((quant_piece x0 x2 x4 _ _ _ f 384 (by decide) _ _ (hF _ _ _) hfb x').trans ?_)
    exact congrArg (fun z => quantOf (sumsAt x0 x2 x4 f z _) _) (funext fun d => hV _ d)
  · refine (congrFun (quant_2 _ _ _ _ _ _) x').trans ((quant_piece x0 x2 x4 _ _ _ f 256 (by decide) _ _ (hF _ _ _) hfb x').trans ?_)
    exact congrArg (fun z => quantOf (sumsAt x0 x2 x4 f z _) _) (funext fun d => hV _ d)
  · refine (congrFun (quant_1 _ _ _ _ _ _) x').trans ((quant_piece x0 x2 x4 _ _ _ f 128 (by decide) _ _ (hF _ _ _) hfb x').trans ?_)
    exact congrArg (fun z => quantOf (sumsAt x0 x2 x4 f z _) _) (funext fun d => hV _ d)
  · refine (congrFun (quant_0 _ _ _ _ _ _) x').trans ((quant_piece x0 x2 x4 _ _ _ f 0 (by decide) _ _ (hF _ _ _) hfb x').trans ?_)
    exact congrArg (fun z => quantOf (sumsAt x0 x2 x4 f z _) _) (funext fun d => hV _ d)

set_option maxRecDepth 65536 in
/-- The block of the second result. -/
theorem out7_eq (hf : ∀ r, x1 (ix3 0 (i 1) r) * x3 (ix2 (i 0) (i 1)) * Ideal.ofBits .f32 0x40800000#32 = (f r : EReal))
    (hfb : ∀ r, |f r| ≤ 512) (y : S1x1x1x640.Idx) :
    out0_A_7 c i arg2 harg2 arg3 harg3 arg4 harg4 arg5 harg5 arg6 harg6 arg7 harg7 arg8 harg8 arg9 harg9 arg10 harg10 x0 x1 x2 x3 x4 x5 y
      = scaleOf (sumsAt x0 x2 x4 f (fun d => x5 (ix3 0 (i 1) d)) (y 3)) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5)]
  refine View.canon_apply_of_pieces (fun y : S1x1x1x640.Idx => scaleOf (sumsAt x0 x2 x4 f (fun d => x5 (ix3 0 (i 1) d)) (y 3))) _ ?_ y
    (cover0_A_7 c i arg2 harg2 arg3 harg3 arg4 harg4 arg5 harg5 arg6 harg6 arg7 harg7 arg8 harg8 arg9 harg9 arg10 harg10 x0 x1 x2 x3 x4 x5 y)
  unfold kernelRun0_A
  dsimp only
  sl_unfold_words
  simp only [View.readAt_eq_ld, harg2.read_unread, harg3.read_unread, harg4.read_unread, harg5.read_unread, harg6.read_unread,
    harg7.read_unread]
  rw [View.ld_unit_zero (by decide) inb_S1x1x640x64_S1x1x640x64_0_0_0_0 x2,
    View.ld_unit_zero (by decide) inb_S1x1x640x64_S1x1x640x64_0_0_0_0 x4]
  have hF := fun inb1 inb3 h1 r => (factorRow_apply x1 x3 (i 0) (i 1) inb1 inb3 h1 r).trans (hf r)
  have hV := valueScales_apply x5 (i 1)
  simp only [List.forall_mem_cons]
  refine ⟨?_, ?_, ?_, ?_, ?_, fun _ h => absurd h List.not_mem_nil⟩ <;> intro x'
  · refine (congrFun (scale_4 _ _ _ _ _ _) x').trans ((scale_piece x0 x2 x4 _ _ _ f 512 (by decide) _ _ (hF _ _ _) hfb _ x').trans ?_)
    exact congrArg (fun z => scaleOf (sumsAt x0 x2 x4 f z _)) (funext fun d => hV _ d)
  · refine (congrFun (scale_3 _ _ _ _ _ _) x').trans ((scale_piece x0 x2 x4 _ _ _ f 384 (by decide) _ _ (hF _ _ _) hfb _ x').trans ?_)
    exact congrArg (fun z => scaleOf (sumsAt x0 x2 x4 f z _)) (funext fun d => hV _ d)
  · refine (congrFun (scale_2 _ _ _ _ _ _) x').trans ((scale_piece x0 x2 x4 _ _ _ f 256 (by decide) _ _ (hF _ _ _) hfb _ x').trans ?_)
    exact congrArg (fun z => scaleOf (sumsAt x0 x2 x4 f z _)) (funext fun d => hV _ d)
  · refine (congrFun (scale_1 _ _ _ _ _ _) x').trans ((scale_piece x0 x2 x4 _ _ _ f 128 (by decide) _ _ (hF _ _ _) hfb _ x').trans ?_)
    exact congrArg (fun z => scaleOf (sumsAt x0 x2 x4 f z _)) (funext fun d => hV _ d)
  · refine (congrFun (scale_0 _ _ _ _ _ _) x').trans ((scale_piece x0 x2 x4 _ _ _ f 0 (by decide) _ _ (hF _ _ _) hfb _ x').trans ?_)
    exact congrArg (fun z => scaleOf (sumsAt x0 x2 x4 f z _)) (funext fun d => hV _ d)

set_option maxRecDepth 65536 in
/-- The block of the third result. -/
theorem out8_eq (hf : ∀ r, x1 (ix3 0 (i 1) r) * x3 (ix2 (i 0) (i 1)) * Ideal.ofBits .f32 0x40800000#32 = (f r : EReal))
    (hfb : ∀ r, |f r| ≤ 512) (y : S1x1x640x320.Idx) :
    out0_A_8 c i arg2 harg2 arg3 harg3 arg4 harg4 arg5 harg5 arg6 harg6 arg7 harg7 arg8 harg8 arg9 harg9 arg10 harg10 x0 x1 x2 x3 x4 x5 y
      = packAt x0 x2 f (y 2) (y 3) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5)]
  refine View.canon_apply_of_pieces (fun y : S1x1x640x320.Idx => packAt x0 x2 f (y 2) (y 3)) _ ?_ y
    (cover0_A_8 c i arg2 harg2 arg3 harg3 arg4 harg4 arg5 harg5 arg6 harg6 arg7 harg7 arg8 harg8 arg9 harg9 arg10 harg10 x0 x1 x2 x3 x4 x5 y)
  unfold kernelRun0_A
  dsimp only
  sl_unfold_words
  simp only [View.readAt_eq_ld, harg2.read_unread, harg3.read_unread, harg4.read_unread, harg5.read_unread, harg6.read_unread,
    harg7.read_unread]
  rw [View.ld_unit_zero (by decide) inb_S1x1x640x64_S1x1x640x64_0_0_0_0 x2]
  have hF := fun inb1 inb3 h1 r => (factorRow_apply x1 x3 (i 0) (i 1) inb1 inb3 h1 r).trans (hf r)
  simp only [List.forall_mem_cons]
  refine ⟨?_, ?_, ?_, ?_, ?_, ?_, ?_, ?_, ?_, ?_, fun _ h => absurd h List.not_mem_nil⟩ <;> intro x'
  · exact (congrFun (packB_4 _ _ _ _) x').trans (packB_piece x0 x2 _ _ f 512 (by decide) _ _ (hF _ _ _) hfb _ x')
  · exact (congrFun (packA_4 _ _ _ _) x').trans (packA_piece x0 x2 _ _ f 512 (by decide) _ _ (hF _ _ _) hfb _ x')
  · exact (congrFun (packB_3 _ _ _ _) x').trans (packB_piece x0 x2 _ _ f 384 (by decide) _ _ (hF _ _ _) hfb _ x')
  · exact (congrFun (packA_3 _ _ _ _) x').trans (packA_piece x0 x2 _ _ f 384 (by decide) _ _ (hF _ _ _) hfb _ x')
  · exact (congrFun (packB_2 _ _ _ _) x').trans (packB_piece x0 x2 _ _ f 256 (by decide) _ _ (hF _ _ _) hfb _ x')
  · exact (congrFun (packA_2 _ _ _ _) x').trans (packA_piece x0 x2 _ _ f 256 (by decide) _ _ (hF _ _ _) hfb _ x')
  · exact (congrFun (packB_1 _ _ _ _) x').trans (packB_piece x0 x2 _ _ f 128 (by decide) _ _ (hF _ _ _) hfb _ x')
  · exact (congrFun (packA_1 _ _ _ _) x').trans (packA_piece x0 x2 _ _ f 128 (by decide) _ _ (hF _ _ _) hfb _ x')
  · exact (congrFun (packB_0 _ _ _ _) x').trans (packB_piece x0 x2 _ _ f 0 (by decide) _ _ (hF _ _ _) hfb _ x')
  · exact (congrFun (packA_0 _ _ _ _) x').trans (packA_piece x0 x2 _ _ f 0 (by decide) _ _ (hF _ _ _) hfb _ x')

end block

end Cert.Attend

end
-- ==== Proof.Result.lean ====
/- The three results as functions of the arguments: the codes and scales of the queries, keys and values, with the factor of
   every query row given as a real. -/
module

public import proofs.«01_k».proof.Proof.Row
public import Idealize.ShloMosaic.Lib.Pointwise

@[expose] public section

noncomputable section

namespace Cert.Attend

open Idealize.ShloMosaic Idealize.ShloMosaic.Pointwise

/-- The factor of query row `r` of batch `b` and head `h`: its scale, times the head's key scale, times four. -/
def rowFactor (qs : (⟨3, ![3, 32, 640]⟩ : Shape).Idx → EReal) (ks : (⟨2, ![3, 32]⟩ : Shape).Idx → EReal) (b : Fin 3) (h : Fin 32)
    (r : Fin 640) : EReal :=
  qs (ix3 b h r) * ks (ix2 b h) * Ideal.ofBits .f32 0x40800000#32

variable (q k v : (⟨4, ![3, 32, 640, 64]⟩ : Shape).Idx → BitVec 8) (vs : (⟨3, ![3, 32, 64]⟩ : Shape).Idx → EReal)
  (f : Fin 3 → Fin 32 → Fin 640 → ℝ) (b : Fin 3) (h : Fin 32) (r : Fin 640)

/-- The integer scores of query row `r` of batch `b` and head `h` against every key. -/
def scoresOf : Fin 640 → ℤ :=
  scoreOf (fun d => (q (ix4 b h r d)).toInt) (fun j d => (k (ix4 b h j d)).toInt) (f b h r)

theorem scoresOf_le (hf : |f b h r| ≤ 512) (j : Fin 640) : |scoresOf q k f b h r j| ≤ 2 ^ 29 :=
  scoreOf_le _ _ _ (fun _ => abs_toInt_le _) (fun _ _ => abs_toInt_le _) hf j

/-- The weighted sums of the values for that row, times the values' scales. -/
def sumsOf : Fin 64 → EReal :=
  sumOf (scoresOf q k f b h r) (fun j d => (((v (ix4 b h j d)).toInt : ℝ) : EReal)) fun d => vs (ix3 b h d)

/-- The first result: the quantized sums. -/
def quantized (y : (⟨4, ![3, 32, 640, 64]⟩ : Shape).Idx) : BitVec 8 := quantOf (sumsOf q k v vs f (y 0) (y 1) (y 2)) (y 3)

/-- The second result: the sums' scales. -/
def scales (y : (⟨4, ![3, 32, 1, 640]⟩ : Shape).Idx) : EReal := scaleOf (sumsOf q k v vs f (y 0) (y 1) (y 3))

/-- The third result: the codes, two to a byte. -/
def packed (y : (⟨4, ![3, 32, 640, 320]⟩ : Shape).Idx) : BitVec 8 :=
  pack8 (scoresOf q k f (y 0) (y 1) (y 2)) (y 3)

end Cert.Attend

end
-- ==== Proof.Array.lean ====
/- What the kernel's three result arrays hold: every block is written once, so the arrays hold the three results as functions
   of the arguments. -/
module

public import proofs.«01_k».proof.Proof.Block
public import proofs.«01_k».proof.Proof.Result
public import proofs.«01_k».proof.Proof.Gen.KernelIdeal.Value

@[expose] public section

noncomputable section

namespace Cert.Attend

open Idealize.ShloMosaic Idealize.ShloMosaic.TcCoe Idealize.SL.Sem Cert.KernelIdeal Cert.KernelIdeal.Gen
open Idealize.ShloMosaic.Pipeline (Dat)
open Idealize.ShloMosaic.Pointwise

/-! ## The blocks of the arguments -/

/-- Where the windows' blocks start, by batch and head. -/
theorem index0 : ∀ t : Fin cfg0.N, win0_0.index t 0 = (grid0.coords t 0).val ∧ win0_0.index t 1 = (grid0.coords t 1).val
    ∧ win0_0.index t 2 = 0 ∧ win0_0.index t 3 = 0 :=
  (by decide +kernel : ∀ t : Fin grid0.N, _)
theorem index1 : ∀ t : Fin cfg0.N, win0_1.index t 0 = (grid0.coords t 0).val ∧ win0_1.index t 1 = 0 ∧ win0_1.index t 2 = 0 :=
  (by decide +kernel : ∀ t : Fin grid0.N, _)
theorem index2 : ∀ t : Fin cfg0.N, win0_2.index t 0 = (grid0.coords t 0).val ∧ win0_2.index t 1 = (grid0.coords t 1).val
    ∧ win0_2.index t 2 = 0 ∧ win0_2.index t 3 = 0 :=
  (by decide +kernel : ∀ t : Fin grid0.N, _)
theorem index3 : ∀ t : Fin cfg0.N, win0_3.index t 0 = 0 ∧ win0_3.index t 1 = 0 :=
  (by decide +kernel : ∀ t : Fin grid0.N, _)
theorem index4 : ∀ t : Fin cfg0.N, win0_4.index t 0 = (grid0.coords t 0).val ∧ win0_4.index t 1 = (grid0.coords t 1).val
    ∧ win0_4.index t 2 = 0 ∧ win0_4.index t 3 = 0 :=
  (by decide +kernel : ∀ t : Fin grid0.N, _)
theorem index5 : ∀ t : Fin cfg0.N, win0_5.index t 0 = (grid0.coords t 0).val ∧ win0_5.index t 1 = 0 ∧ win0_5.index t 2 = 0 :=
  (by decide +kernel : ∀ t : Fin grid0.N, _)
theorem index6 : ∀ t : Fin cfg0.N, win0_6.index t 0 = (grid0.coords t 0).val ∧ win0_6.index t 1 = (grid0.coords t 1).val
    ∧ win0_6.index t 2 = 0 ∧ win0_6.index t 3 = 0 :=
  (by decide +kernel : ∀ t : Fin grid0.N, _)
theorem index7 : ∀ t : Fin cfg0.N, win0_7.index t 0 = (grid0.coords t 0).val ∧ win0_7.index t 1 = (grid0.coords t 1).val
    ∧ win0_7.index t 2 = 0 ∧ win0_7.index t 3 = 0 :=
  (by decide +kernel : ∀ t : Fin grid0.N, _)
theorem index8 : ∀ t : Fin cfg0.N, win0_8.index t 0 = (grid0.coords t 0).val ∧ win0_8.index t 1 = (grid0.coords t 1).val
    ∧ win0_8.index t 2 = 0 ∧ win0_8.index t 3 = 0 :=
  (by decide +kernel : ∀ t : Fin grid0.N, _)

variable (m : (ℓ : Loc nD τ sig) → Buf (Elt Ideal) ℓ) (c : Dev nD) (t : Fin cfg0.N)

/-- The block of queries at a point is its batch and head of the queries. -/
theorem block0_apply (r : Fin 640) (d : Fin 64) : (iblk m c 0 t : Vec Ideal S1x1x640x64 .i8) (ix4 0 0 r d)
    = (m ((c : Thread nD τ).loc main_arg0) : Vec Ideal S3x32x640x64 .i8) (ix4 (grid0.coords t 0) (grid0.coords t 1) r d) := by
  unfold iblk
  rw [View.read_apply]
  show m ((c : Thread nD τ).loc main_arg0) _ = _
  refine congrArg (m ((c : Thread nD τ).loc main_arg0)) (funext fun a => Fin.ext ?_)
  obtain ⟨h0, h1, h2, h3⟩ := index0 t
  match a with
  | ⟨0, _⟩ => show win0_0.index t 0 * 1 + 1 * 0 = (grid0.coords t 0).val; rw [h0]; omega
  | ⟨1, _⟩ => show win0_0.index t 1 * 1 + 1 * 0 = (grid0.coords t 1).val; rw [h1]; omega
  | ⟨2, _⟩ => show win0_0.index t 2 * 640 + 1 * r.val = r.val; rw [h2]; omega
  | ⟨3, _⟩ => show win0_0.index t 3 * 64 + 1 * d.val = d.val; rw [h3]; omega

/-- The block of query scales at a point is its batch of them. -/
theorem block1_apply (h : Fin 32) (r : Fin 640) : (iblk m c 1 t : Vec Ideal S1x32x640 .f32) (ix3 0 h r)
    = (m ((c : Thread nD τ).loc main_arg1) : Vec Ideal S3x32x640 .f32) (ix3 (grid0.coords t 0) h r) := by
  unfold iblk
  rw [View.read_apply]
  show m ((c : Thread nD τ).loc main_arg1) _ = _
  refine congrArg (m ((c : Thread nD τ).loc main_arg1)) (funext fun a => Fin.ext ?_)
  obtain ⟨h0, h1, h2⟩ := index1 t
  match a with
  | ⟨0, _⟩ => show win0_1.index t 0 * 1 + 1 * 0 = (grid0.coords t 0).val; rw [h0]; omega
  | ⟨1, _⟩ => show win0_1.index t 1 * 32 + 1 * h.val = h.val; rw [h1]; omega
  | ⟨2, _⟩ => show win0_1.index t 2 * 640 + 1 * r.val = r.val; rw [h2]; omega

/-- The block of keys at a point is its batch and head of the keys. -/
theorem block2_apply (r : Fin 640) (d : Fin 64) : (iblk m c 2 t : Vec Ideal S1x1x640x64 .i8) (ix4 0 0 r d)
    = (m ((c : Thread nD τ).loc main_arg2) : Vec Ideal S3x32x640x64 .i8) (ix4 (grid0.coords t 0) (grid0.coords t 1) r d) := by
  unfold iblk
  rw [View.read_apply]
  show m ((c : Thread nD τ).loc main_arg2) _ = _
  refine congrArg (m ((c : Thread nD τ).loc main_arg2)) (funext fun a => Fin.ext ?_)
  obtain ⟨h0, h1, h2, h3⟩ := index2 t
  match a with
  | ⟨0, _⟩ => show win0_2.index t 0 * 1 + 1 * 0 = (grid0.coords t 0).val; rw [h0]; omega
  | ⟨1, _⟩ => show win0_2.index t 1 * 1 + 1 * 0 = (grid0.coords t 1).val; rw [h1]; omega
  | ⟨2, _⟩ => show win0_2.index t 2 * 640 + 1 * r.val = r.val; rw [h2]; omega
  | ⟨3, _⟩ => show win0_2.index t 3 * 64 + 1 * d.val = d.val; rw [h3]; omega

/-- The block of key scales at every point is all of them. -/
theorem block3_apply (b : Fin 3) (h : Fin 32) : (iblk m c 3 t : Vec Ideal S3x32 .f32) (ix2 b h)
    = (m ((c : Thread nD τ).loc main_arg3) : Vec Ideal S3x32 .f32) (ix2 b h) := by
  unfold iblk
  rw [View.read_apply]
  show m ((c : Thread nD τ).loc main_arg3) _ = _
  refine congrArg (m ((c : Thread nD τ).loc main_arg3)) (funext fun a => Fin.ext ?_)
  obtain ⟨h0, h1⟩ := index3 t
  match a with
  | ⟨0, _⟩ => show win0_3.index t 0 * 3 + 1 * b.val = b.val; rw [h0]; omega
  | ⟨1, _⟩ => show win0_3.index t 1 * 32 + 1 * h.val = h.val; rw [h1]; omega

/-- The block of values at a point is its batch and head of the values. -/
theorem block4_apply (r : Fin 640) (d : Fin 64) : (iblk m c 4 t : Vec Ideal S1x1x640x64 .i8) (ix4 0 0 r d)
    = (m ((c : Thread nD τ).loc main_arg4) : Vec Ideal S3x32x640x64 .i8) (ix4 (grid0.coords t 0) (grid0.coords t 1) r d) := by
  unfold iblk
  rw [View.read_apply]
  show m ((c : Thread nD τ).loc main_arg4) _ = _
  refine congrArg (m ((c : Thread nD τ).loc main_arg4)) (funext fun a => Fin.ext ?_)
  obtain ⟨h0, h1, h2, h3⟩ := index4 t
  match a with
  | ⟨0, _⟩ => show win0_4.index t 0 * 1 + 1 * 0 = (grid0.coords t 0).val; rw [h0]; omega
  | ⟨1, _⟩ => show win0_4.index t 1 * 1 + 1 * 0 = (grid0.coords t 1).val; rw [h1]; omega
  | ⟨2, _⟩ => show win0_4.index t 2 * 640 + 1 * r.val = r.val; rw [h2]; omega
  | ⟨3, _⟩ => show win0_4.index t 3 * 64 + 1 * d.val = d.val; rw [h3]; omega

/-- The block of value scales at a point is its batch of them. -/
theorem block5_apply (h : Fin 32) (d : Fin 64) : (iblk m c 5 t : Vec Ideal S1x32x64 .f32) (ix3 0 h d)
    = (m ((c : Thread nD τ).loc main_arg5) : Vec Ideal S3x32x64 .f32) (ix3 (grid0.coords t 0) h d) := by
  unfold iblk
  rw [View.read_apply]
  show m ((c : Thread nD τ).loc main_arg5) _ = _
  refine congrArg (m ((c : Thread nD τ).loc main_arg5)) (funext fun a => Fin.ext ?_)
  obtain ⟨h0, h1, h2⟩ := index5 t
  match a with
  | ⟨0, _⟩ => show win0_5.index t 0 * 1 + 1 * 0 = (grid0.coords t 0).val; rw [h0]; omega
  | ⟨1, _⟩ => show win0_5.index t 1 * 32 + 1 * h.val = h.val; rw [h1]; omega
  | ⟨2, _⟩ => show win0_5.index t 2 * 64 + 1 * d.val = d.val; rw [h2]; omega

/-! ## The results -/

variable (f : Fin 3 → Fin 32 → Fin 640 → ℝ)

/-- The scores of a block's row are those of its row of the arguments. -/
theorem scoresAt_eq (r : Fin 640) :
    scoresAt (iblk m c 0 t) (iblk m c 2 t) (f (grid0.coords t 0) (grid0.coords t 1)) r
      = scoresOf (m ((c : Thread nD τ).loc main_arg0)) (m ((c : Thread nD τ).loc main_arg2)) f (grid0.coords t 0) (grid0.coords t 1) r := by
  unfold scoresAt scoresOf
  simp only [block0_apply, block2_apply]

/-- The sums of a block's row are those of its row of the arguments. -/
theorem sumsAt_eq (r : Fin 640) :
    sumsAt (iblk m c 0 t) (iblk m c 2 t) (iblk m c 4 t) (f (grid0.coords t 0) (grid0.coords t 1))
        (fun d => (iblk m c 5 t : Vec Ideal S1x32x64 .f32) (ix3 0 (grid0.coords t 1) d)) r
      = sumsOf (m ((c : Thread nD τ).loc main_arg0)) (m ((c : Thread nD τ).loc main_arg2)) (m ((c : Thread nD τ).loc main_arg4))
        (m ((c : Thread nD τ).loc main_arg5)) f (grid0.coords t 0) (grid0.coords t 1) r := by
  unfold sumsAt sumsOf
  rw [scoresAt_eq]
  simp only [block4_apply]
  exact congrArg (sumOf _ _) (funext fun d => block5_apply m c t _ d)

variable (hf : ∀ b h r, rowFactor (m ((c : Thread nD τ).loc main_arg1)) (m ((c : Thread nD τ).loc main_arg3)) b h r = (f b h r : EReal))
  (hfb : ∀ b h r, |f b h r| ≤ 512)

include hf in
/-- The factor of a block's row is that of its row of the arguments. -/
theorem factor_block (r : Fin 640) :
    (fun (x1 : S1x32x640.Idx → EReal) (x3 : S3x32.Idx → EReal) => x1 (ix3 0 (grid0.coords t 1) r)
      * x3 (ix2 (grid0.coords t 0) (grid0.coords t 1)) * Ideal.ofBits .f32 0x40800000#32) (iblk m c 1 t) (iblk m c 3 t)
      = (f (grid0.coords t 0) (grid0.coords t 1) r : EReal) :=
  (congrArg₂ (fun a b : EReal => a * b * _) (block1_apply m c t _ r) (block3_apply m c t _ _)).trans (hf _ _ _)

/-- Every batch and head is some point's. -/
theorem point_of : ∀ (b : Fin 3) (h : Fin 32), ∃ t : Fin cfg0.N, (grid0.coords t 0).val = b.val ∧ (grid0.coords t 1).val = h.val :=
  (by decide +kernel : ∀ (b : Fin 3) (h : Fin 32), ∃ t : Fin grid0.N, _)

/-- The blocks of the results are whole. -/
theorem size6 : ∀ t : Fin cfg0.N, win0_6.xsize (grid0.coords t) 0 = 1 ∧ win0_6.xsize (grid0.coords t) 1 = 1
    ∧ win0_6.xsize (grid0.coords t) 2 = 640 ∧ win0_6.xsize (grid0.coords t) 3 = 64 :=
  (by decide +kernel : ∀ t : Fin grid0.N, _)
theorem size7 : ∀ t : Fin cfg0.N, win0_7.xsize (grid0.coords t) 0 = 1 ∧ win0_7.xsize (grid0.coords t) 1 = 1
    ∧ win0_7.xsize (grid0.coords t) 2 = 1 ∧ win0_7.xsize (grid0.coords t) 3 = 640 :=
  (by decide +kernel : ∀ t : Fin grid0.N, _)
theorem size8 : ∀ t : Fin cfg0.N, win0_8.xsize (grid0.coords t) 0 = 1 ∧ win0_8.xsize (grid0.coords t) 1 = 1
    ∧ win0_8.xsize (grid0.coords t) 2 = 640 ∧ win0_8.xsize (grid0.coords t) 3 = 320 :=
  (by decide +kernel : ∀ t : Fin grid0.N, _)

/-- Where an element of a point's block lies in the first result. -/
theorem emb6 (y : ((cfg0.win 6).xblock (grid0.coords t)).Idx) (a : Fin 4) : (((cfg0.win 6).blk t).view.emb y a).val
    = (![(grid0.coords t 0).val, (grid0.coords t 1).val, (y 2).val, (y 3).val] : Fin 4 → ℕ) a := by
  obtain ⟨h0, h1, h2, h3⟩ := index6 t
  have y0 : (y 0).val < 1 := (y 0).isLt
  have y1 : (y 1).val < 1 := (y 1).isLt
  match a with
  | ⟨0, _⟩ => show win0_6.index t 0 * 1 + 1 * (y 0).val = (grid0.coords t 0).val; rw [h0]; omega
  | ⟨1, _⟩ => show win0_6.index t 1 * 1 + 1 * (y 1).val = (grid0.coords t 1).val; rw [h1]; omega
  | ⟨2, _⟩ => show win0_6.index t 2 * 640 + 1 * (y 2).val = (y 2).val; rw [h2]; omega
  | ⟨3, _⟩ => show win0_6.index t 3 * 64 + 1 * (y 3).val = (y 3).val; rw [h3]; omega

include hf hfb in
/-- What a point writes back to the first result. -/
theorem flushed6_eq : (dats m 0 c).flushed 6 t
    = ((cfg0.win 6).blk t).view.read (Elt Ideal) (quantized (m ((c : Thread nD τ).loc main_arg0)) (m ((c : Thread nD τ).loc main_arg2)) (m ((c : Thread nD τ).loc main_arg4)) (m ((c : Thread nD τ).loc main_arg5)) f : S3x32x640x64.Idx → BitVec 8) := by
  rw [Value.flushed6_A]
  funext y
  rw [View.read_apply]
  refine (out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) (f (grid0.coords t 0) (grid0.coords t 1))
    (factor_block m c t f hf) (hfb _ _) y).trans ?_
  have e0 : ((cfg0.win 6).blk t).view.emb y 0 = grid0.coords t 0 := Fin.ext (emb6 t y 0)
  have e1 : ((cfg0.win 6).blk t).view.emb y 1 = grid0.coords t 1 := Fin.ext (emb6 t y 1)
  have e2 : ((cfg0.win 6).blk t).view.emb y 2 = y 2 := Fin.ext (emb6 t y 2)
  have e3 : ((cfg0.win 6).blk t).view.emb y 3 = y 3 := Fin.ext (emb6 t y 3)
  refine Eq.trans ?_ (congrArg₂ quantOf (congrArg₂ (fun g r => g r) (congrArg₂ (fun b h => sumsOf _ _ _ _ f b h) e0.symm e1.symm) e2.symm) e3.symm)
  exact congrArg (fun z => quantOf z (y 3)) (sumsAt_eq m c t f (y 2))

include hf hfb in
/-- The first result's array after the run. -/
theorem array6 : (dats m 0 c).arrAt 6 cfg0.N = (quantized (m ((c : Thread nD τ).loc main_arg0)) (m ((c : Thread nD τ).loc main_arg2)) (m ((c : Thread nD τ).loc main_arg4)) (m ((c : Thread nD τ).loc main_arg5)) f : S3x32x640x64.Idx → BitVec 8) :=
  (dats m 0 c).arrAt_eq_of_cover 6 _ (fun t _ => flushed6_eq m c t f hf hfb) fun i => by
    obtain ⟨t, h0, h1⟩ := point_of (i 0) (i 1)
    refine ⟨t, flush0_6 t, ?_⟩
    show i ∈ ((View.whole main_v0_0).slice (win0_6.rect t)).set
    rw [View.set_slice_whole, Rect.mem_set_unit]
    obtain ⟨j0, j1, j2, j3⟩ := index6 t
    obtain ⟨z0, z1, z2, z3⟩ := size6 t
    have i0 : (i 0 : Nat) < 3 := (i 0).isLt
    have i1 : (i 1 : Nat) < 32 := (i 1).isLt
    have i2 : (i 2 : Nat) < 640 := (i 2).isLt
    have i3 : (i 3 : Nat) < 64 := (i 3).isLt
    intro a
    match a with
    | ⟨0, _⟩ => show win0_6.index t 0 * 1 ≤ (i 0 : Nat) ∧ (i 0 : Nat) < win0_6.index t 0 * 1 + win0_6.xsize (grid0.coords t) 0
                rw [j0, h0, z0]; omega
    | ⟨1, _⟩ => show win0_6.index t 1 * 1 ≤ (i 1 : Nat) ∧ (i 1 : Nat) < win0_6.index t 1 * 1 + win0_6.xsize (grid0.coords t) 1
                rw [j1, h1, z1]; omega
    | ⟨2, _⟩ => show win0_6.index t 2 * 640 ≤ (i 2 : Nat) ∧ (i 2 : Nat) < win0_6.index t 2 * 640 + win0_6.xsize (grid0.coords t) 2
                rw [j2, z2]; omega
    | ⟨3, _⟩ => show win0_6.index t 3 * 64 ≤ (i 3 : Nat) ∧ (i 3 : Nat) < win0_6.index t 3 * 64 + win0_6.xsize (grid0.coords t) 3
                rw [j3, z3]; omega

/-- Where an element of a point's block lies in the second result. -/
theorem emb7 (y : ((cfg0.win 7).xblock (grid0.coords t)).Idx) (a : Fin 4) : (((cfg0.win 7).blk t).view.emb y a).val
    = (![(grid0.coords t 0).val, (grid0.coords t 1).val, (y 2).val, (y 3).val] : Fin 4 → ℕ) a := by
  obtain ⟨h0, h1, h2, h3⟩ := index7 t
  have y0 : (y 0).val < 1 := (y 0).isLt
  have y1 : (y 1).val < 1 := (y 1).isLt
  match a with
  | ⟨0, _⟩ => show win0_7.index t 0 * 1 + 1 * (y 0).val = (grid0.coords t 0).val; rw [h0]; omega
  | ⟨1, _⟩ => show win0_7.index t 1 * 1 + 1 * (y 1).val = (grid0.coords t 1).val; rw [h1]; omega
  | ⟨2, _⟩ => show win0_7.index t 2 * 1 + 1 * (y 2).val = (y 2).val; rw [h2]; omega
  | ⟨3, _⟩ => show win0_7.index t 3 * 640 + 1 * (y 3).val = (y 3).val; rw [h3]; omega

include hf hfb in
/-- What a point writes back to the second result. -/
theorem flushed7_eq : (dats m 0 c).flushed 7 t
    = ((cfg0.win 7).blk t).view.read (Elt Ideal) (scales (m ((c : Thread nD τ).loc main_arg0)) (m ((c : Thread nD τ).loc main_arg2)) (m ((c : Thread nD τ).loc main_arg4)) (m ((c : Thread nD τ).loc main_arg5)) f : S3x32x1x640.Idx → EReal) := by
  rw [Value.flushed7_A]
  funext y
  rw [View.read_apply]
  refine (out7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) (f (grid0.coords t 0) (grid0.coords t 1))
    (factor_block m c t f hf) (hfb _ _) y).trans ?_
  have e0 : ((cfg0.win 7).blk t).view.emb y 0 = grid0.coords t 0 := Fin.ext (emb7 t y 0)
  have e1 : ((cfg0.win 7).blk t).view.emb y 1 = grid0.coords t 1 := Fin.ext (emb7 t y 1)
  have e2 : ((cfg0.win 7).blk t).view.emb y 2 = y 2 := Fin.ext (show _ = (y 2).val from emb7 t y 2)
  have e3 : ((cfg0.win 7).blk t).view.emb y 3 = y 3 := Fin.ext (emb7 t y 3)
  refine Eq.trans ?_ (congrArg scaleOf (congrArg₂ (fun g r => g r) (congrArg₂ (fun b h => sumsOf _ _ _ _ f b h) e0.symm e1.symm) e3.symm))
  exact congrArg scaleOf (sumsAt_eq m c t f (y 3))

include hf hfb in
/-- The second result's array after the run. -/
theorem array7 : (dats m 0 c).arrAt 7 cfg0.N = (scales (m ((c : Thread nD τ).loc main_arg0)) (m ((c : Thread nD τ).loc main_arg2)) (m ((c : Thread nD τ).loc main_arg4)) (m ((c : Thread nD τ).loc main_arg5)) f : S3x32x1x640.Idx → EReal) :=
  (dats m 0 c).arrAt_eq_of_cover 7 _ (fun t _ => flushed7_eq m c t f hf hfb) fun i => by
    obtain ⟨t, h0, h1⟩ := point_of (i 0) (i 1)
    refine ⟨t, flush0_7 t, ?_⟩
    show i ∈ ((View.whole main_v0_1).slice (win0_7.rect t)).set
    rw [View.set_slice_whole, Rect.mem_set_unit]
    obtain ⟨j0, j1, j2, j3⟩ := index7 t
    obtain ⟨z0, z1, z2, z3⟩ := size7 t
    have i0 : (i 0 : Nat) < 3 := (i 0).isLt
    have i1 : (i 1 : Nat) < 32 := (i 1).isLt
    have i2 : (i 2 : Nat) < 1 := (i 2).isLt
    have i3 : (i 3 : Nat) < 640 := (i 3).isLt
    intro a
    match a with
    | ⟨0, _⟩ => show win0_7.index t 0 * 1 ≤ (i 0 : Nat) ∧ (i 0 : Nat) < win0_7.index t 0 * 1 + win0_7.xsize (grid0.coords t) 0
                rw [j0, h0, z0]; omega
    | ⟨1, _⟩ => show win0_7.index t 1 * 1 ≤ (i 1 : Nat) ∧ (i 1 : Nat) < win0_7.index t 1 * 1 + win0_7.xsize (grid0.coords t) 1
                rw [j1, h1, z1]; omega
    | ⟨2, _⟩ => show win0_7.index t 2 * 1 ≤ (i 2 : Nat) ∧ (i 2 : Nat) < win0_7.index t 2 * 1 + win0_7.xsize (grid0.coords t) 2
                rw [j2, z2]; omega
    | ⟨3, _⟩ => show win0_7.index t 3 * 640 ≤ (i 3 : Nat) ∧ (i 3 : Nat) < win0_7.index t 3 * 640 + win0_7.xsize (grid0.coords t) 3
                rw [j3, z3]; omega

/-- Where an element of a point's block lies in the third result. -/
theorem emb8 (y : ((cfg0.win 8).xblock (grid0.coords t)).Idx) (a : Fin 4) : (((cfg0.win 8).blk t).view.emb y a).val
    = (![(grid0.coords t 0).val, (grid0.coords t 1).val, (y 2).val, (y 3).val] : Fin 4 → ℕ) a := by
  obtain ⟨h0, h1, h2, h3⟩ := index8 t
  have y0 : (y 0).val < 1 := (y 0).isLt
  have y1 : (y 1).val < 1 := (y 1).isLt
  match a with
  | ⟨0, _⟩ => show win0_8.index t 0 * 1 + 1 * (y 0).val = (grid0.coords t 0).val; rw [h0]; omega
  | ⟨1, _⟩ => show win0_8.index t 1 * 1 + 1 * (y 1).val = (grid0.coords t 1).val; rw [h1]; omega
  | ⟨2, _⟩ => show win0_8.index t 2 * 640 + 1 * (y 2).val = (y 2).val; rw [h2]; omega
  | ⟨3, _⟩ => show win0_8.index t 3 * 320 + 1 * (y 3).val = (y 3).val; rw [h3]; omega

include hf hfb in
/-- What a point writes back to the third result. -/
theorem flushed8_eq : (dats m 0 c).flushed 8 t
    = ((cfg0.win 8).blk t).view.read (Elt Ideal) (packed (m ((c : Thread nD τ).loc main_arg0)) (m ((c : Thread nD τ).loc main_arg2)) f : S3x32x640x320.Idx → BitVec 8) := by
  rw [Value.flushed8_A]
  funext y
  rw [View.read_apply]
  refine (out8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) (f (grid0.coords t 0) (grid0.coords t 1))
    (factor_block m c t f hf) (hfb _ _) y).trans ?_
  have e0 : ((cfg0.win 8).blk t).view.emb y 0 = grid0.coords t 0 := Fin.ext (emb8 t y 0)
  have e1 : ((cfg0.win 8).blk t).view.emb y 1 = grid0.coords t 1 := Fin.ext (emb8 t y 1)
  have e2 : ((cfg0.win 8).blk t).view.emb y 2 = y 2 := Fin.ext (emb8 t y 2)
  have e3 : ((cfg0.win 8).blk t).view.emb y 3 = y 3 := Fin.ext (emb8 t y 3)
  refine Eq.trans ?_ (congrArg₂ (fun s n => pack8 s n) (congrArg₂ (fun g r => g r) (congrArg₂ (fun b h => scoresOf _ _ f b h) e0.symm e1.symm) e2.symm) e3.symm)
  exact congrArg (fun z => pack8 z (y 3)) (scoresAt_eq m c t f (y 2))

include hf hfb in
/-- The third result's array after the run. -/
theorem array8 : (dats m 0 c).arrAt 8 cfg0.N = (packed (m ((c : Thread nD τ).loc main_arg0)) (m ((c : Thread nD τ).loc main_arg2)) f : S3x32x640x320.Idx → BitVec 8) :=
  (dats m 0 c).arrAt_eq_of_cover 8 _ (fun t _ => flushed8_eq m c t f hf hfb) fun i => by
    obtain ⟨t, h0, h1⟩ := point_of (i 0) (i 1)
    refine ⟨t, flush0_8 t, ?_⟩
    show i ∈ ((View.whole main_v0_2).slice (win0_8.rect t)).set
    rw [View.set_slice_whole, Rect.mem_set_unit]
    obtain ⟨j0, j1, j2, j3⟩ := index8 t
    obtain ⟨z0, z1, z2, z3⟩ := size8 t
    have i0 : (i 0 : Nat) < 3 := (i 0).isLt
    have i1 : (i 1 : Nat) < 32 := (i 1).isLt
    have i2 : (i 2 : Nat) < 640 := (i 2).isLt
    have i3 : (i 3 : Nat) < 320 := (i 3).isLt
    intro a
    match a with
    | ⟨0, _⟩ => show win0_8.index t 0 * 1 ≤ (i 0 : Nat) ∧ (i 0 : Nat) < win0_8.index t 0 * 1 + win0_8.xsize (grid0.coords t) 0
                rw [j0, h0, z0]; omega
    | ⟨1, _⟩ => show win0_8.index t 1 * 1 ≤ (i 1 : Nat) ∧ (i 1 : Nat) < win0_8.index t 1 * 1 + win0_8.xsize (grid0.coords t) 1
                rw [j1, h1, z1]; omega
    | ⟨2, _⟩ => show win0_8.index t 2 * 640 ≤ (i 2 : Nat) ∧ (i 2 : Nat) < win0_8.index t 2 * 640 + win0_8.xsize (grid0.coords t) 2
                rw [j2, z2]; omega
    | ⟨3, _⟩ => show win0_8.index t 3 * 320 ≤ (i 3 : Nat) ∧ (i 3 : Nat) < win0_8.index t 3 * 320 + win0_8.xsize (grid0.coords t) 3
                rw [j3, z3]; omega

end Cert.Attend

end
-- ==== Proof.RefRead.lean ====
/- The reference's arrays read at one index, each from the arrays before it: the scores, the distances, the exponentials,
   the ratios, the codes and the weighted sums, and the three reductions over a row's keys or channels as folds. -/
module

public import proofs.«01_k».proof.Proof.Gen.ReferenceIdeal.Run
public import proofs.«01_k».proof.Proof.Result

@[expose] public section

noncomputable section

namespace Cert.Attend

open Idealize.ShloMosaic Cert.ReferenceIdeal Cert.ReferenceIdeal.Gen Cert.ReferenceIdeal.Value
open Idealize.ShloMosaic.TcCoe Idealize.ShloMosaic.Tactic Idealize.ShloMosaic.StableHlo Idealize.SL.Sem
open Idealize.ShloMosaic.Pointwise
open scoped BigOperators

/-- Inserting a key's number as the last coordinate. -/
theorem lift_key (h' : Shape.Reduces S3x32x640x640 [3] S3x32x640) (b : Fin 3) (h : Fin 32) (r j : Fin 640) :
    h'.lift (ix3 b h r) j = ix4 b h r j := by
  funext a
  refine Fin.ext ((h'.lift_val _ _ _).trans ?_)
  fin_cases a <;> rfl

/-- Inserting a channel's number as the last coordinate. -/
theorem lift_channel (h' : Shape.Reduces S3x32x640x64 [3] S3x32x640) (b : Fin 3) (h : Fin 32) (r : Fin 640) (d : Fin 64) :
    h'.lift (ix3 b h r) d = ix4 b h r d := by
  funext a
  refine Fin.ext ((h'.lift_val _ _ _).trans ?_)
  fin_cases a <;> rfl

theorem reduces_key : Shape.Reduces S3x32x640x640 [3] S3x32x640 := by decide
theorem reduces_channel : Shape.Reduces S3x32x640x64 [3] S3x32x640 := by decide

/-- A fold over the indices that lie over a row is the fold over the row's keys. -/
theorem fold_keys {α : Type} (op : α → α → α) [Std.Commutative op] [Std.Associative op] (i : α) (x : S3x32x640x640.Idx → α)
    (b : Fin 3) (h : Fin 32) (r : Fin 640) :
    (Finset.univ.filter fun y => reducesTo_S3x32x640x640_S3x32x640_d3.drop y = ix3 b h r).fold op i x
      = (Finset.univ : Finset (Fin 640)).fold op i fun j => x (ix4 b h r j) := by
  rw [Shape.ReducesTo.drop_eq_drop _ reduces_key]
  refine (reduces_key.fold_filter_drop_single op i x (ix3 b h r)).trans ?_
  exact congrArg (Finset.fold op i · Finset.univ) (funext fun j => congrArg x (lift_key _ b h r j))

/-- A fold over the indices that lie over a row is the fold over the row's channels. -/
theorem fold_channels {α : Type} (op : α → α → α) [Std.Commutative op] [Std.Associative op] (i : α) (x : S3x32x640x64.Idx → α)
    (b : Fin 3) (h : Fin 32) (r : Fin 640) :
    (Finset.univ.filter fun y => reducesTo_S3x32x640x64_S3x32x640_d3.drop y = ix3 b h r).fold op i x
      = (Finset.univ : Finset (Fin 64)).fold op i fun j => x (ix4 b h r j) := by
  rw [Shape.ReducesTo.drop_eq_drop _ reduces_channel]
  refine (reduces_channel.fold_filter_drop_single op i x (ix3 b h r)).trans ?_
  exact congrArg (Finset.fold op i · Finset.univ) (funext fun j => congrArg x (lift_channel _ b h r j))

/-- A row's largest magnitude, from any array of sums. -/
theorem magnitude_read (b : Fin 3) (h : Fin 32) (r : Fin 640) (Y : FVec Ideal S3x32x640x64 .f32) :
    (Host.reduce FloatOps.maximumf (Host.absf Y) (constant S_ .f32 0xFF800000#32) reducesTo_S3x32x640x64_S3x32x640_d3 h_S_
      : FVec Ideal S3x32x640 .f32) (ix3 b h r) = magnitude fun d => (show S3x32x640x64.Idx → EReal from Y) (ix4 b h r d) := by
  rw [Host.reduce_eq_fold_single FloatOps.maximumf _ _ _ reduces_channel h_S_]
  exact congrArg (fun g => Finset.univ.fold max (Ideal.ofBits .f32 0xFF800000#32) g) (funext fun d =>
    congrArg (fun y => max ((show S3x32x640x64.Idx → EReal from Y) y) (-((show S3x32x640x64.Idx → EReal from Y) y))) (lift_channel _ b h r d))

/-- A row's scale, from any array of magnitudes. -/
theorem scale_read (b : Fin 3) (h : Fin 32) (r : Fin 640) (X : FVec Ideal S3x32x640 .f32) :
    (select (cmpf .ogt X (broadcastInDim S3x32x640 ![] bcast_S_S3x32x640 (constant S_ .f32 0x00000000#32))) (Host.divf X (broadcastInDim S3x32x640 ![] bcast_S_S3x32x640 (constant S_ .f32 0x42FE0000#32))) (broadcastInDim S3x32x640 ![] bcast_S_S3x32x640 (id (constant S_ .f32 0x3F800000#32))) : FVec Ideal S3x32x640 .f32) (ix3 b h r)
      = if 0 < (show S3x32x640.Idx → EReal from X) (ix3 b h r) then Ideal.div ((show S3x32x640.Idx → EReal from X) (ix3 b h r)) (Ideal.ofBits .f32 0x42FE0000#32) else 1 := by
  pointwise
  exact if_congr Iff.rfl rfl (c_one.trans EReal.coe_one)

/-- The first result at an index, from any arrays of sums and scales. -/
theorem quant_read (b : Fin 3) (h : Fin 32) (r : Fin 640) (Y : FVec Ideal S3x32x640x64 .f32) (Z : FVec Ideal S3x32x640 .f32) (d : Fin 64) :
    trunci 8 (fptosi 32 (minimumf (broadcastInDim S3x32x640x64 ![] bcast_S_S3x32x640x64 (sitofp (F := Ideal) .f32 (constantI S_ 32 127#32))) (maximumf (broadcastInDim S3x32x640x64 ![] bcast_S_S3x32x640x64 (sitofp .f32 (constantI S_ 32 4294967169#32))) (Host.roundeven (Host.divf Y (broadcastInDim S3x32x640x64 ![0, 1, 2, 3] bcast_S3x32x640x1_S3x32x640x64_0_1_2_3 (broadcastInDim S3x32x640x1 ![0, 1, 2] bcast_S3x32x640_S3x32x640x1_0_1_2 Z))))))) natLt_8_32 (ix4 b h r d)
      = BitVec.setWidth 8 (Ideal.fptosi 32 (min (((127#32).toInt : ℝ) : EReal) (max (((4294967169#32).toInt : ℝ) : EReal)
          (Ideal.liftRound Ideal.roundHalfEven (Ideal.div ((show S3x32x640x64.Idx → EReal from Y) (ix4 b h r d)) ((show S3x32x640.Idx → EReal from Z) (ix3 b h r))))))) := by
  pointwise
  rfl

/-- The second result at an index, from any array of scales. -/
theorem scale_result_read (b : Fin 3) (h : Fin 32) (r : Fin 640) (Z : FVec Ideal S3x32x640 .f32) :
    (broadcastInDim S3x32x1x640 ![0, 1, 3] bcast_S3x32x640_S3x32x1x640_0_1_3 Z : FVec Ideal S3x32x1x640 .f32) (ix4 b h 0 r) = Z (ix3 b h r) := by
  pointwise

/-- The third result at an index, from any array of codes. -/
theorem pack_read (b : Fin 3) (h : Fin 32) (r : Fin 640) (C : IVec S3x32x640x640 32) (n : Fin 320) :
    trunci 8 (ori (Host.slice S3x32x640x320 ![0, 0, 0, 0] ![1, 1, 1, 2] C slicesBy_S3x32x640x640_S3x32x640x320_0s1_0s1_0s1_0s2) (Host.shli (Host.slice S3x32x640x320 ![0, 0, 0, 1] ![1, 1, 1, 2] C slicesBy_S3x32x640x640_S3x32x640x320_0s1_0s1_0s1_1s2) (broadcastInDim S3x32x640x320 ![] bcast_S_S3x32x640x320 (constantI S_ 32 4#32)))) natLt_8_32 (ix4 b h r n)
      = BitVec.setWidth 8 (IntOp.ori (C (ix4 b h r ⟨2 * n.val, by omega⟩)) (IntOp.shli .host (C (ix4 b h r ⟨2 * n.val + 1, by omega⟩)) 4#32)) := by
  pointwise
  exact congrArg (fun i : Fin 640 => BitVec.setWidth 8 (IntOp.ori (C (ix4 b h r ⟨2 * n.val, by omega⟩))
    (IntOp.shli .host (C (ix4 b h r i)) 4#32))) (Fin.ext (Nat.add_comm _ _))

variable (V : Valuation τ sig (Elt Ideal)) (b : Fin 3) (h : Fin 32) (r j : Fin 640)

/-- The scores. -/
theorem read16 : (res_main_v16 V : IVec S3x32x640x640 32) (ix4 b h r j) =
    Ideal.fptosi 32 (Ideal.liftRound Ideal.roundHalfEven
      ((∑ d : Fin 64, (((BitVec.signExtend 32 (V (Proc.devRef .tc main_arg0) (ix4 b h r d))).toInt : ℝ) : EReal)
          * (((BitVec.signExtend 32 (V (Proc.devRef .tc main_arg2) (ix4 b h j d))).toInt : ℝ) : EReal))
        * rowFactor (V (Proc.devRef .tc main_arg1)) (V (Proc.devRef .tc main_arg3)) b h r)) := by
  pointwise [res_main_v16]; rfl

/-- The distances, clamped. -/
theorem read23 : (res_main_v23 V : IVec S3x32x640x640 32) (ix4 b h r j) =
    IntOp.minsi (-IntOp.subi ((res_main_v16 V : IVec S3x32x640x640 32) (ix4 b h r j))
      ((Finset.univ : Finset (Fin 640)).fold IntOp.maxsi (2147483648#32)
        fun i => (res_main_v16 V : IVec S3x32x640x640 32) (ix4 b h r i))) 264#32 := by
  pointwise [res_main_v23]
  exact congrArg (fun z => IntOp.minsi (-IntOp.subi ((res_main_v16 V : IVec S3x32x640x640 32) (ix4 b h r j)) z) 264#32)
    (fold_keys IntOp.maxsi _ (res_main_v16 V : IVec S3x32x640x640 32) b h r)

/-- The numbers of halvings. -/
theorem read30 : (res_main_v30 V : IVec S3x32x640x640 32) (ix4 b h r j) =
    Ideal.fptosi 32 (Ideal.liftRound Int.floor
      ((((((res_main_v23 V : IVec S3x32x640x640 32) (ix4 b h r j)).toInt : ℝ) : EReal) + Ideal.ofBits .f32 0x3F000000#32)
        * Ideal.ofBits .f32 0x3D3A2E8C#32)) := by
  pointwise [res_main_v30]; rfl

/-- The polynomial's argument. -/
theorem read35 : (res_main_v35 V : IVec S3x32x640x640 32) (ix4 b h r j) =
    IntOp.addi (IntOp.subi (IntOp.muli ((res_main_v30 V : IVec S3x32x640x640 32) (ix4 b h r j)) 22#32)
      ((res_main_v23 V : IVec S3x32x640x640 32) (ix4 b h r j))) 43#32 := by
  pointwise [res_main_v35]

/-- The exponentials. -/
theorem read39 : (res_main_v39 V : IVec S3x32x640x640 32) (ix4 b h r j) =
    IntOp.shrsi .host (IntOp.addi (IntOp.muli ((res_main_v35 V : IVec S3x32x640x640 32) (ix4 b h r j))
      ((res_main_v35 V : IVec S3x32x640x640 32) (ix4 b h r j))) 982#32)
      ((res_main_v30 V : IVec S3x32x640x640 32) (ix4 b h r j)) := by
  pointwise [res_main_v39]

/-- The numerators of the ratios. -/
theorem read45 : (res_main_v45 V : IVec S3x32x640x640 32) (ix4 b h r j) =
    IntOp.addi (IntOp.muli 2#32 ((Finset.univ : Finset (Fin 640)).fold IntOp.addi (0#32)
        fun i => (res_main_v39 V : IVec S3x32x640x640 32) (ix4 b h r i)))
      ((res_main_v39 V : IVec S3x32x640x640 32) (ix4 b h r j)) := by
  pointwise [res_main_v45]
  exact congrArg (fun z => IntOp.addi (IntOp.muli 2#32 z) ((res_main_v39 V : IVec S3x32x640x640 32) (ix4 b h r j)))
    (fold_keys IntOp.addi _ (res_main_v39 V : IVec S3x32x640x640 32) b h r)

/-- The denominators of the ratios. -/
theorem read49 : (res_main_v49 V : IVec S3x32x640x640 32) (ix4 b h r j) =
    IntOp.muli 2#32 (IntOp.maxsi ((res_main_v39 V : IVec S3x32x640x640 32) (ix4 b h r j)) 1#32) := by
  pointwise [res_main_v49]

/-- The quotients. -/
theorem read55 : (res_main_v55 V : IVec S3x32x640x640 32) (ix4 b h r j) =
    Ideal.fptosi 32 (min (Ideal.ofBits .f32 0x47000000#32) (max (id (constant S_ .f32 0#32 : FVec Ideal S_ .f32) ix0)
      (Ideal.liftRound Int.floor (Ideal.div
        ((((res_main_v45 V : IVec S3x32x640x640 32) (ix4 b h r j)).toInt : ℝ) : EReal)
        ((((res_main_v49 V : IVec S3x32x640x640 32) (ix4 b h r j)).toInt : ℝ) : EReal))))) := by
  pointwise [res_main_v55]; rfl

/-- The quotients corrected downwards. -/
theorem read59 : (res_main_v59 V : IVec S3x32x640x640 32) (ix4 b h r j) =
    IntOp.subi ((res_main_v55 V : IVec S3x32x640x640 32) (ix4 b h r j))
      (BitVec.setWidth 32 (IntOp.cmpi .sgt (IntOp.muli ((res_main_v55 V : IVec S3x32x640x640 32) (ix4 b h r j))
        ((res_main_v49 V : IVec S3x32x640x640 32) (ix4 b h r j))) ((res_main_v45 V : IVec S3x32x640x640 32) (ix4 b h r j)))) := by
  pointwise [res_main_v59]

/-- The quotients corrected upwards and clamped. -/
theorem read67 : (res_main_v67 V : IVec S3x32x640x640 32) (ix4 b h r j) =
    IntOp.minsi (IntOp.addi ((res_main_v59 V : IVec S3x32x640x640 32) (ix4 b h r j))
      (BitVec.setWidth 32 (IntOp.cmpi .sle
        (IntOp.muli (IntOp.addi ((res_main_v59 V : IVec S3x32x640x640 32) (ix4 b h r j)) 1#32)
          ((res_main_v49 V : IVec S3x32x640x640 32) (ix4 b h r j)))
        ((res_main_v45 V : IVec S3x32x640x640 32) (ix4 b h r j))))) 32767#32 := by
  pointwise [res_main_v67]

/-- The logarithms. -/
theorem read70 : (res_main_v70 V : IVec S3x32x640x640 32) (ix4 b h r j) =
    IntOp.subi 31#32 (IntOp.ctlz ((res_main_v67 V : IVec S3x32x640x640 32) (ix4 b h r j))) := by
  pointwise [res_main_v70]

/-- The codes. -/
theorem read83 : (res_main_v83 V : IVec S3x32x640x640 32) (ix4 b h r j) =
    Scalar.select (IntOp.cmpi .eq ((res_main_v39 V : IVec S3x32x640x640 32) (ix4 b h r j)) 0#32) 15#32
      (IntOp.addi ((res_main_v70 V : IVec S3x32x640x640 32) (ix4 b h r j))
        (BitVec.setWidth 32 (IntOp.cmpi .sge (IntOp.muli ((res_main_v67 V : IVec S3x32x640x640 32) (ix4 b h r j))
            ((res_main_v67 V : IVec S3x32x640x640 32) (ix4 b h r j)))
          (IntOp.shli .host 1#32 (IntOp.addi (IntOp.muli 2#32 ((res_main_v70 V : IVec S3x32x640x640 32) (ix4 b h r j))) 1#32))))) := by
  pointwise [res_main_v83]; rfl

/-- The weighted sums. -/
theorem read99 (d : Fin 64) : (res_main_v99 V : FVec Ideal S3x32x640x64 .f32) (ix4 b h r d) =
    (show EReal from (∑ i : Fin 640, Ideal.ofBits .f32 (IntOp.shli .host (IntOp.subi 127#32
          ((res_main_v83 V : IVec S3x32x640x640 32) (ix4 b h r i))) 23#32)
        * (((BitVec.signExtend 32 (V (Proc.devRef .tc main_arg4) (ix4 b h i d))).toInt : ℝ) : EReal))
      * (show S3x32x64.Idx → EReal from V (Proc.devRef .tc main_arg5)) (ix3 b h d)) := by
  pointwise [res_main_v99]; rfl

/-- The magnitudes. -/
theorem read101 : (res_main_v101 V : FVec Ideal S3x32x640 .f32) (ix3 b h r) =
    magnitude fun d => (show S3x32x640x64.Idx → EReal from res_main_v99 V) (ix4 b h r d) := by
  unfold res_main_v101
  exact magnitude_read b h r _

/-- The scales. -/
theorem read106 : (res_main_v106 V : FVec Ideal S3x32x640 .f32) (ix3 b h r) =
    scaleOf fun d => (show S3x32x640x64.Idx → EReal from res_main_v99 V) (ix4 b h r d) := by
  unfold res_main_v106
  refine (scale_read b h r _).trans ?_
  unfold scaleOf
  rw [← read101]

end Cert.Attend

end
-- ==== Proof.RefScalar.lean ====
/- One element of the reference's integer arithmetic: the steps from a score's distance down to the key's code and its
   weight, on 32-bit words, and the theorems that on words of integers in range they compute the integer functions of
   Score. -/
module

public import proofs.«01_k».proof.Proof.Row

@[expose] public section

noncomputable section

namespace Cert.Attend

open Idealize.ShloMosaic
open scoped BigOperators

/-- The 32-bit word of an integer. -/
abbrev word (z : ℤ) : BitVec 32 := BitVec.ofInt 32 z

/-! ## Words of integers -/

theorem word_toInt (z : ℤ) (h0 : -2 ^ 31 ≤ z) (h1 : z < 2 ^ 31) : (word z).toInt = z := by
  unfold word; rw [BitVec.toInt_ofInt, Int.bmod_eq_of_le] <;> omega

theorem word_nat (n : ℕ) : word n = BitVec.ofNat 32 n := BitVec.ofInt_natCast 32 n

theorem addi_word (a b : ℤ) : IntOp.addi (word a) (word b) = word (a + b) := (BitVec.ofInt_add ..).symm
theorem muli_word (a b : ℤ) : IntOp.muli (word a) (word b) = word (a * b) := (BitVec.ofInt_mul ..).symm
theorem neg_word (a : ℤ) : -(word a) = word (-a) := (BitVec.ofInt_neg).symm
theorem subi_word (a b : ℤ) : IntOp.subi (word a) (word b) = word (a - b) := by
  unfold IntOp.subi; rw [BitVec.sub_eq_add_neg, neg_word, sub_eq_add_neg]; exact addi_word _ _

theorem maxsi_word (a b : ℤ) (ha : -2 ^ 31 ≤ a) (ha' : a < 2 ^ 31) (hb : -2 ^ 31 ≤ b) (hb' : b < 2 ^ 31) :
    IntOp.maxsi (word a) (word b) = word (max a b) := by
  unfold IntOp.maxsi BitVec.slt
  rw [word_toInt a ha ha', word_toInt b hb hb']
  simp only [decide_eq_true_eq]
  split_ifs with h
  · rw [max_eq_left h.le]
  · rw [max_eq_right (not_lt.mp h)]

theorem minsi_word (a b : ℤ) (ha : -2 ^ 31 ≤ a) (ha' : a < 2 ^ 31) (hb : -2 ^ 31 ≤ b) (hb' : b < 2 ^ 31) :
    IntOp.minsi (word a) (word b) = word (min a b) := by
  unfold IntOp.minsi BitVec.slt
  rw [word_toInt a ha ha', word_toInt b hb hb']
  simp only [decide_eq_true_eq]
  split_ifs with h
  · rw [min_eq_left h.le]
  · rw [min_eq_right (not_lt.mp h)]

theorem sgt_word (a b : ℤ) (ha : -2 ^ 31 ≤ a) (ha' : a < 2 ^ 31) (hb : -2 ^ 31 ≤ b) (hb' : b < 2 ^ 31) :
    BitVec.setWidth 32 (IntOp.cmpi .sgt (word a) (word b)) = word (if b < a then 1 else 0) := by
  unfold IntOp.cmpi BitVec.slt
  simp only [word_toInt a ha ha', word_toInt b hb hb']
  split_ifs with h <;> simp [h]

theorem sle_word (a b : ℤ) (ha : -2 ^ 31 ≤ a) (ha' : a < 2 ^ 31) (hb : -2 ^ 31 ≤ b) (hb' : b < 2 ^ 31) :
    BitVec.setWidth 32 (IntOp.cmpi .sle (word a) (word b)) = word (if a ≤ b then 1 else 0) := by
  unfold IntOp.cmpi BitVec.sle
  simp only [word_toInt a ha ha', word_toInt b hb hb']
  split_ifs with h <;> simp [h]

theorem sge_word (a b : ℤ) (ha : -2 ^ 31 ≤ a) (ha' : a < 2 ^ 31) (hb : -2 ^ 31 ≤ b) (hb' : b < 2 ^ 31) :
    BitVec.setWidth 32 (IntOp.cmpi .sge (word a) (word b)) = word (if b ≤ a then 1 else 0) := by
  unfold IntOp.cmpi BitVec.sle
  simp only [word_toInt a ha ha', word_toInt b hb hb']
  split_ifs with h <;> simp [h]

/-- The float-to-integer conversion of an integer in range. -/
theorem fptosi_word (z : ℤ) (h0 : -2 ^ 31 ≤ z) (h1 : z < 2 ^ 31) : Ideal.fptosi 32 ((z : ℝ) : EReal) = word z := by
  unfold Ideal.fptosi
  rw [Ideal.toIntClamped_coe, Int.floor_intCast, Int.ceil_intCast, ite_self]
  congr 1
  norm_num
  omega

/-! ## The exponential -/

/-- The number of halvings, from the float expression that computes it. -/
theorem halvings_word (x : ℤ) (h0 : 0 ≤ x) (h1 : x ≤ 2 ^ 30) :
    Ideal.fptosi 32 (Ideal.liftRound Int.floor
      ((((x : ℝ) : EReal) + Ideal.ofBits .f32 0x3F000000#32) * Ideal.ofBits .f32 0x3D3A2E8C#32)) = word (halvings x) := by
  have hb := halvings_bounds x h0 h1
  have hfl : ⌊((x : ℝ) + 1 / 2) * (3050403 / 2 ^ 26)⌋ = halvings x := by
    have hd := Int.mul_ediv_add_emod ((2 * x + 1) * 3050403) (2 ^ 27)
    have hm0 := Int.emod_nonneg ((2 * x + 1) * 3050403) (show (2 ^ 27 : ℤ) ≠ 0 by norm_num)
    have hm1 := Int.emod_lt_of_pos ((2 * x + 1) * 3050403) (show (0 : ℤ) < 2 ^ 27 by norm_num)
    have a1 : (2 : ℤ) ^ 27 * halvings x ≤ (2 * x + 1) * 3050403 := by unfold halvings; linarith
    have a2 : (2 * x + 1) * 3050403 < 2 ^ 27 * halvings x + 2 ^ 27 := by unfold halvings; linarith
    have b1 : (2 : ℝ) ^ 27 * (halvings x : ℝ) ≤ (2 * (x : ℝ) + 1) * 3050403 := by exact_mod_cast a1
    have b2 : (2 * (x : ℝ) + 1) * 3050403 < 2 ^ 27 * (halvings x : ℝ) + 2 ^ 27 := by exact_mod_cast a2
    rw [Int.floor_eq_iff]
    constructor <;> linarith
  rw [c_half, c_inv, ← EReal.coe_add, ← EReal.coe_mul, Ideal.liftRound_coe, hfl]
  exact fptosi_word _ (by omega) (by omega)

/-- The polynomial shifted right by the number of halvings is the integer exponential. -/
theorem expo_word (x : ℤ) (h0 : 0 ≤ x) (h1 : x ≤ 264) :
    IntOp.shrsi .host (IntOp.addi (IntOp.muli (word (22 * halvings x - x + 43)) (word (22 * halvings x - x + 43))) 982#32)
      (word (halvings x)) = word (expo x) := by
  interval_cases x <;> decide +kernel

/-! ## The ratio -/

/-- The quotient of the rounded ratio as the reference computes it: a float quotient clamped at 32768. -/
theorem quot_word (n d : ℤ) (hn : 0 ≤ n) (hd : 1 ≤ d) :
    Ideal.fptosi 32 (min (Ideal.ofBits .f32 0x47000000#32) (max (Ideal.ofBits .f32 0x00000000#32)
      (Ideal.liftRound Int.floor (Ideal.div ((n : ℝ) : EReal) ((d : ℝ) : EReal))))) = word (min 32768 (n / d)) := by
  have hd0 : (0 : ℝ) < (d : ℝ) := by exact_mod_cast hd
  have hc : Ideal.ofBits .f32 0x47000000#32 = (((32768 : ℤ) : ℝ) : EReal) := by
    simp [Ideal.ofBits, Ideal.ieee, -EReal.coe_mul]; norm_num
  have hfl : ⌊(n : ℝ) * (1 / (d : ℝ))⌋ = n / d := by
    rw [mul_one_div, Int.floor_eq_iff]
    have h := Int.mul_ediv_add_emod n d
    have m0 := Int.emod_nonneg n (show d ≠ 0 by omega)
    have m1 := Int.emod_lt_of_pos n (show 0 < d by omega)
    have a1 : d * (n / d) ≤ n := by linarith
    have a2 : n < d * (n / d) + d := by linarith
    have b1 : (d : ℝ) * ((n / d : ℤ) : ℝ) ≤ n := by exact_mod_cast a1
    have b2 : (n : ℝ) < (d : ℝ) * ((n / d : ℤ) : ℝ) + d := by exact_mod_cast a2
    constructor
    · rw [le_div_iff₀ hd0]; linarith
    · rw [div_lt_iff₀ hd0]; linarith
  have hq : 0 ≤ n / d := Int.ediv_nonneg hn (by omega)
  rw [Ideal.div_coe hd0.ne', ← EReal.coe_mul, Ideal.liftRound_coe, hfl, c_zero,
    max_eq_right (by exact_mod_cast hq), hc, ← EReal.coe_strictMono.monotone.map_min, ← Int.cast_min]
  exact fptosi_word _ (by omega) (by omega)

/-- The first correction of the quotient takes nothing off. -/
theorem lower_word (n d q : ℤ) (hd : 1 ≤ d) (hd' : d ≤ 2 ^ 13) (hn : 0 ≤ n) (hn' : n < 2 ^ 31) (hq : q = min 32768 (n / d)) :
    IntOp.subi (word q) (BitVec.setWidth 32 (IntOp.cmpi .sgt (IntOp.muli (word q) (word d)) (word n))) = word q := by
  have hq0 : 0 ≤ n / d := Int.ediv_nonneg hn (by omega)
  have hle : q * d ≤ n := by
    have h := Int.ediv_mul_le n (show d ≠ 0 by omega)
    have : q ≤ n / d := by omega
    nlinarith
  have h0 : 0 ≤ q := by omega
  have h1 : 0 ≤ q * d := by positivity
  rw [muli_word, sgt_word _ _ (by omega) (by omega) (by omega) (by omega), if_neg (by omega), subi_word, sub_zero]

/-- The second correction followed by the clamp gives the quotient clamped at 32767. -/
theorem upper_word (n d q : ℤ) (hd : 1 ≤ d) (hd' : d ≤ 2 ^ 13) (hn : 0 ≤ n) (hn' : n < 2 ^ 31) (hq : q = min 32768 (n / d)) :
    IntOp.minsi (IntOp.addi (word q)
        (BitVec.setWidth 32 (IntOp.cmpi .sle (IntOp.muli (IntOp.addi (word q) 1#32) (word d)) (word n)))) 32767#32
      = word (min (n / d) 32767) := by
  have hq0 : 0 ≤ n / d := Int.ediv_nonneg hn (by omega)
  have h0 : 0 ≤ q := by omega
  have h0' : q ≤ 32768 := by omega
  have h1 : 0 ≤ (q + 1) * d := by positivity
  have h2 : (q + 1) * d ≤ 32769 * 2 ^ 13 := by nlinarith
  rw [show (1#32 : BitVec 32) = word 1 from rfl, show (32767#32 : BitVec 32) = word 32767 from rfl, addi_word, muli_word,
    sle_word _ _ (by omega) (by omega) (by omega) (by omega), addi_word]
  by_cases hc : n / d ≤ 32768
  · have he : q = n / d := by omega
    have hlt : n < (n / d + 1) * d := by
      have := Int.lt_ediv_add_one_mul_self n (show 0 < d by omega)
      exact this
    rw [he, if_neg (by omega), add_zero]
    rw [minsi_word _ _ (by omega) (by omega) (by omega) (by omega)]
  · rw [minsi_word _ _ (by split_ifs <;> omega) (by split_ifs <;> omega) (by omega) (by omega)]
    congr 1
    split_ifs <;> omega

/-! ## The code -/

/-- The integer part of the logarithm of a positive word. -/
theorem log_word (r : ℕ) (h0 : 1 ≤ r) (h1 : r ≤ 32767) :
    IntOp.subi 31#32 (IntOp.ctlz (word r)) = word (Nat.log2 r : ℕ) := by
  rw [word_nat, word_nat]
  have hq : (BitVec.ofNat 32 r).toNat = r := by rw [BitVec.toNat_ofNat]; omega
  have hne : BitVec.ofNat 32 r ≠ 0 := by
    intro h; have := congrArg BitVec.toNat h; rw [hq] at this; simp at this; omega
  have hl : Nat.log2 r < 15 := by rw [Nat.log2_lt (by omega)]; omega
  unfold IntOp.ctlz
  rw [if_neg hne, hq]
  generalize Nat.log2 r = l at hl
  interval_cases l <;> decide +kernel

/-- The reference's shift of one. -/
theorem shift_word (l : ℕ) (h : l < 15) :
    IntOp.shli .host 1#32 (IntOp.addi (IntOp.muli 2#32 (word l)) 1#32) = word ((2 ^ (2 * l + 1) : ℕ) : ℤ) := by
  interval_cases l <;> decide +kernel

/-- The reference's code of a key: the logarithm of the ratio rounded by comparing its square. -/
theorem code_word (e S : ℤ) (he : 0 ≤ e) (hS : e ≤ S) (h2 : S < 2 ^ 21) (x : BitVec 32)
    (hx : 1 ≤ e → x = word (ratio e S)) :
    Scalar.select (IntOp.cmpi .eq (word e) 0#32) 15#32
      (IntOp.addi (IntOp.subi 31#32 (IntOp.ctlz x))
        (BitVec.setWidth 32 (IntOp.cmpi .sge (IntOp.muli x x)
          (IntOp.shli .host 1#32 (IntOp.addi (IntOp.muli 2#32 (IntOp.subi 31#32 (IntOp.ctlz x))) 1#32)))))
      = BitVec.ofNat 32 (codeOf e S) := by
  by_cases h : e = 0
  · subst h
    rw [codeOf_zero]
    rfl
  · have hne : word e ≠ 0#32 := fun hh => h (by
      have := congrArg BitVec.toInt hh
      rwa [word_toInt e (by omega) (by omega)] at this)
    have hb := ratio_bounds e S he hS
    have hr : (((ratio e S).toNat : ℕ) : ℤ) = ratio e S := Int.toNat_of_nonneg (by omega)
    have hr1 : 1 ≤ (ratio e S).toNat := by omega
    have hr2 : (ratio e S).toNat ≤ 32767 := by omega
    have hl : Nat.log2 (ratio e S).toNat < 15 := by rw [Nat.log2_lt (by omega)]; omega
    have hx' := hx (by omega)
    rw [← hr] at hx'
    have hc : IntOp.cmpi .eq (word e) 0#32 = 0#1 := by
      unfold IntOp.cmpi; simp only [beq_eq_false_iff_ne.mpr hne]; rfl
    unfold codeOf
    rw [log2_sq _ hr1, hc, hx']
    generalize (ratio e S).toNat = r at hr1 hr2 hl
    rw [log_word r hr1 hr2, shift_word _ hl]
    have hp : 2 ^ (2 * Nat.log2 r + 1) ≤ 2 ^ 29 := Nat.pow_le_pow_right (by norm_num) (by omega)
    generalize 2 ^ (2 * Nat.log2 r + 1) = P at hp
    have hs : r ^ 2 ≤ 32767 ^ 2 := Nat.pow_le_pow_left hr2 2
    have hrr : ((r : ℤ) * r) = ((r ^ 2 : ℕ) : ℤ) := by push_cast; ring
    rw [muli_word, hrr]
    rw [sge_word _ _ (by omega) (by omega) (by omega) (by omega), addi_word]
    change word _ = _
    rw [← word_nat]
    congr 1
    push_cast
    congr 1
    have : ((P : ℤ) ≤ (r : ℤ) ^ 2) ↔ P ≤ r ^ 2 := by exact_mod_cast Iff.rfl
    simp only [this]

/-! ## What is made of the codes -/

/-- The weight's bits, shifted into place. -/
theorem weight_word (c : ℕ) (h : c ≤ 15) :
    IntOp.shli .host (IntOp.subi 127#32 (BitVec.ofNat 32 c)) 23#32 = BitVec.ofNat 32 (127 - c) <<< 23 := by
  interval_cases c <;> decide +kernel

/-- Two codes packed in a byte. -/
theorem pack_word (a b : ℕ) (ha : a ≤ 15) (hb : b ≤ 15) :
    BitVec.setWidth 8 (IntOp.ori (BitVec.ofNat 32 a) (IntOp.shli .host (BitVec.ofNat 32 b) 4#32)) = pack a b := by
  have h : IntOp.shli .host (BitVec.ofNat 32 b) 4#32 = BitVec.ofNat 32 b <<< 4 := by
    interval_cases b <;> decide +kernel
  rw [h]; rfl

/-- A float clamped between -127 and 127 converts to a byte directly as it does through a 32-bit word. -/
theorem fptosi_narrow (x : EReal) (h0 : (((-127 : ℤ) : ℝ) : EReal) ≤ x) (h1 : x ≤ (((127 : ℤ) : ℝ) : EReal)) :
    BitVec.setWidth 8 (Ideal.fptosi 32 x) = Ideal.fptosi 8 x := by
  induction x using EReal.rec with
  | bot => exact absurd h0 (by simp)
  | top => exact absurd h1 (by simp)
  | coe r =>
    have h0' : ((-127 : ℤ) : ℝ) ≤ r := by exact_mod_cast h0
    have h1' : r ≤ ((127 : ℤ) : ℝ) := by exact_mod_cast h1
    unfold Ideal.fptosi
    rw [Ideal.toIntClamped_coe, Ideal.toIntClamped_coe]
    have hz : -127 ≤ (if 0 ≤ r then ⌊r⌋ else ⌈r⌉) ∧ (if 0 ≤ r then ⌊r⌋ else ⌈r⌉) ≤ 127 := by
      have a1 : -127 ≤ ⌊r⌋ := Int.le_floor.mpr h0'
      have a2 : ⌈r⌉ ≤ 127 := Int.ceil_le.mpr h1'
      have a3 := Int.floor_le_ceil r
      split_ifs <;> omega
    generalize (if 0 ≤ r then ⌊r⌋ else ⌈r⌉) = z at hz
    have e1 : max (-((2 ^ (32 - 1) : ℕ) : ℤ)) (min (((2 ^ (32 - 1) : ℕ) : ℤ) - 1) z) = z := by norm_num; omega
    have e2 : max (-((2 ^ (8 - 1) : ℕ) : ℤ)) (min (((2 ^ (8 - 1) : ℕ) : ℤ) - 1) z) = z := by norm_num; omega
    rw [e1, e2]
    obtain ⟨z0, z1⟩ := hz
    interval_cases z <;> rfl

end Cert.Attend

end
-- ==== Proof.Reference.lean ====
/- The reference's three results are the results of Result, given the real factor of every row. -/
module

public import proofs.«01_k».proof.Proof.RefRead
public import proofs.«01_k».proof.Proof.RefScalar

@[expose] public section

noncomputable section

namespace Cert.Attend

open Idealize.ShloMosaic Cert.ReferenceIdeal Cert.ReferenceIdeal.Gen Cert.ReferenceIdeal.Value
open Idealize.ShloMosaic.TcCoe Idealize.ShloMosaic.Tactic Idealize.ShloMosaic.StableHlo Idealize.SL.Sem
open Idealize.ShloMosaic.Pointwise
open scoped BigOperators

/-! ## The reductions over a row's keys -/

/-- The largest word of a family is the word of the largest integer. -/
theorem fold_maxsi_word (s : Fin 640 → ℤ) (hs : ∀ j, |s j| ≤ 2 ^ 29) :
    (Finset.univ : Finset (Fin 640)).fold IntOp.maxsi 2147483648#32 (fun j => word (s j)) = word (rowMax s) := by
  have hb : ∀ j, -2 ^ 29 ≤ s j ∧ s j ≤ 2 ^ 29 := fun j => abs_le.mp (hs j)
  have key : ∀ T : Finset (Fin 640), T.fold IntOp.maxsi 2147483648#32 (fun j => word (s j)) = word (T.fold max (-2 ^ 31) s)
      ∧ -2 ^ 31 ≤ T.fold max (-2 ^ 31) s ∧ T.fold max (-2 ^ 31) s ≤ 2 ^ 29 := by
    intro T
    induction T using Finset.cons_induction with
    | empty => exact ⟨rfl, le_refl _, by simp⟩
    | cons a T ha ih =>
      obtain ⟨i1, i2, i3⟩ := ih
      have := hb a
      rw [Finset.fold_cons, Finset.fold_cons, i1]
      exact ⟨maxsi_word _ _ (by omega) (by omega) (by omega) (by omega), by omega, by omega⟩
  refine (key Finset.univ).1.trans (congrArg word ?_)
  apply le_antisymm
  · rw [Finset.fold_max_le]
    obtain ⟨j, hj⟩ := exists_rowMax s
    exact ⟨by have := hb j; omega, fun i _ => le_rowMax s i⟩
  · obtain ⟨j, hj⟩ := exists_rowMax s
    rw [Finset.le_fold_max]
    exact .inr ⟨j, Finset.mem_univ _, hj.le⟩

/-- The sum of a family of words is the word of the sum. -/
theorem fold_addi_word (e : Fin 640 → ℤ) :
    (Finset.univ : Finset (Fin 640)).fold IntOp.addi 0#32 (fun j => word (e j)) = word (∑ j, e j) := by
  have key : ∀ T : Finset (Fin 640), T.fold IntOp.addi 0#32 (fun j => word (e j)) = word (∑ j ∈ T, e j) := by
    intro T
    induction T using Finset.cons_induction with
    | empty => rfl
    | cons a T ha ih => rw [Finset.fold_cons, ih, Finset.sum_cons, addi_word]
  exact key _

/-! ## The results from equal arguments -/

section Congr

variable {q q' k k' v v' : (⟨4, ![3, 32, 640, 64]⟩ : Shape).Idx → BitVec 8} {vs vs' : (⟨3, ![3, 32, 64]⟩ : Shape).Idx → EReal}
  (f : Fin 3 → Fin 32 → Fin 640 → ℝ)

theorem quantized_congr (hq : q = q') (hk : k = k') (hv : v = v') (hvs : vs = vs') :
    quantized q k v vs f = quantized q' k' v' vs' f := by rw [hq, hk, hv, hvs]

theorem scales_congr (hq : q = q') (hk : k = k') (hv : v = v') (hvs : vs = vs') :
    scales q k v vs f = scales q' k' v' vs' f := by rw [hq, hk, hv, hvs]

theorem packed_congr (hq : q = q') (hk : k = k') : packed q k f = packed q' k' f := by rw [hq, hk]

end Congr

/-! ## The reference's arrays on one row -/

variable (V : Valuation τ sig (Elt Ideal)) (f : Fin 3 → Fin 32 → Fin 640 → ℝ)
  (hf : ∀ b h r, rowFactor (V (Proc.devRef .tc main_arg1)) (V (Proc.devRef .tc main_arg3)) b h r = ((f b h r : ℝ) : EReal))
  (hfb : ∀ b h r, |f b h r| ≤ 512) (b : Fin 3) (h : Fin 32) (r j : Fin 640)

/-- The row's integer scores, from the reference's arguments. -/
abbrev rowScores : Fin 640 → ℤ := scoresOf (V (Proc.devRef .tc main_arg0)) (V (Proc.devRef .tc main_arg2)) f b h r

include hfb in
theorem rowScores_le : |rowScores V f b h r j| ≤ 2 ^ 29 := scoresOf_le _ _ f b h r (hfb b h r) j

include hf hfb

theorem val16 : (res_main_v16 V : IVec S3x32x640x640 32) (ix4 b h r j) = word (rowScores V f b h r j) := by
  have hb := abs_le.mp (rowScores_le V f hfb b h r j)
  rw [read16, hf]
  have hx : ∀ x : BitVec 8, (BitVec.signExtend 32 x).toInt = x.toInt := fun x =>
    BitVec.toInt_signExtend_of_le (by norm_num)
  simp only [hx]
  exact (congrArg (Ideal.fptosi 32) (score_coe (fun d => (V (Proc.devRef .tc main_arg0) (ix4 b h r d) : BitVec 8).toInt)
    (fun j d => (V (Proc.devRef .tc main_arg2) (ix4 b h j d) : BitVec 8).toInt) (f b h r) j)).trans
    (fptosi_word (rowScores V f b h r j) (by omega) (by omega))

/-- The distance to the row's largest score, clamped at 264. -/
abbrev dist : ℤ := min (rowMax (rowScores V f b h r) - rowScores V f b h r j) 264

omit hf in
theorem dist_le : 0 ≤ dist V f b h r j ∧ dist V f b h r j ≤ 264 := by
  have := dist_bounds (rowScores V f b h r) (rowScores_le V f hfb b h r) j
  unfold dist
  omega

theorem val23 : (res_main_v23 V : IVec S3x32x640x640 32) (ix4 b h r j) = word (dist V f b h r j) := by
  have hd := dist_bounds (rowScores V f b h r) (rowScores_le V f hfb b h r) j
  rw [read23, val16 V f hf hfb]
  simp only [val16 V f hf hfb]
  rw [fold_maxsi_word _ (rowScores_le V f hfb b h r), subi_word, neg_word, neg_sub]
  exact minsi_word _ 264 (by omega) (by omega) (by omega) (by omega)

theorem val30 : (res_main_v30 V : IVec S3x32x640x640 32) (ix4 b h r j) = word (halvings (dist V f b h r j)) := by
  have hd := dist_le V f hfb b h r j
  rw [read30, val23 V f hf hfb, word_toInt _ (by omega) (by omega), halvings_word _ hd.1 (by omega)]

theorem val35 : (res_main_v35 V : IVec S3x32x640x640 32) (ix4 b h r j)
    = word (22 * halvings (dist V f b h r j) - dist V f b h r j + 43) := by
  rw [read35, val23 V f hf hfb, val30 V f hf hfb, show (22#32 : BitVec 32) = word 22 from rfl,
    show (43#32 : BitVec 32) = word 43 from rfl, muli_word, subi_word, addi_word, mul_comm]

/-- The reference's exponentials are the integer exponentials. -/
theorem val39 : (res_main_v39 V : IVec S3x32x640x640 32) (ix4 b h r j) = word (rowExp (rowScores V f b h r) j) := by
  have hd := dist_le V f hfb b h r j
  have hb := dist_bounds (rowScores V f b h r) (rowScores_le V f hfb b h r) j
  rw [read39, val35 V f hf hfb, val30 V f hf hfb, expo_word _ hd.1 hd.2, expo_min _ hb.1 hb.2]
  rfl

theorem val45 : (res_main_v45 V : IVec S3x32x640x640 32) (ix4 b h r j)
    = word (2 * rowSum (rowScores V f b h r) + rowExp (rowScores V f b h r) j) := by
  rw [read45]
  simp only [val39 V f hf hfb]
  rw [fold_addi_word, show (2#32 : BitVec 32) = word 2 from rfl, muli_word, addi_word]
  rfl

theorem val49 : (res_main_v49 V : IVec S3x32x640x640 32) (ix4 b h r j)
    = word (2 * max (rowExp (rowScores V f b h r) j) 1) := by
  have he := rowExp_bounds _ (rowScores_le V f hfb b h r) j
  rw [read49, val39 V f hf hfb, show (1#32 : BitVec 32) = word 1 from rfl, show (2#32 : BitVec 32) = word 2 from rfl,
    maxsi_word _ _ (by omega) (by omega) (by omega) (by omega), muli_word]

/-- The reference's corrected quotient is the rounded ratio, whenever the exponential is not zero. -/
theorem val67 (he1 : 1 ≤ rowExp (rowScores V f b h r) j) : (res_main_v67 V : IVec S3x32x640x640 32) (ix4 b h r j)
    = word (ratio (rowExp (rowScores V f b h r) j) (rowSum (rowScores V f b h r))) := by
  have he := rowExp_bounds _ (rowScores_le V f hfb b h r) j
  have hS := rowSum_bounds _ (rowScores_le V f hfb b h r)
  have h45 := val45 V f hf hfb b h r j
  have h49 := val49 V f hf hfb b h r j
  rw [max_eq_left he1] at h49
  have h55 := read55 V b h r j
  rw [h45, h49, word_toInt _ (by omega) (by omega), word_toInt _ (by omega) (by omega)] at h55
  have h55' := h55.trans (quot_word (2 * rowSum (rowScores V f b h r) + rowExp (rowScores V f b h r) j)
    (2 * rowExp (rowScores V f b h r) j) (by omega) (by omega))
  have h59 := read59 V b h r j
  rw [h55', h45, h49, lower_word _ _ _ (by omega) (by omega) (by omega) (by omega) rfl] at h59
  rw [read67, h59, h45, h49, upper_word _ _ _ (by omega) (by omega) (by omega) (by omega) rfl]
  unfold ratio
  rw [if_neg (by omega)]

/-- The reference's codes are the integer codes. -/
theorem val83 : (res_main_v83 V : IVec S3x32x640x640 32) (ix4 b h r j) = BitVec.ofNat 32 (rowCode (rowScores V f b h r) j) := by
  have he := rowExp_bounds _ (rowScores_le V f hfb b h r) j
  have hS := rowSum_bounds _ (rowScores_le V f hfb b h r)
  rw [read83, read70, val39 V f hf hfb]
  exact code_word _ _ he.1 (rowExp_le_rowSum _ (rowScores_le V f hfb b h r) j) hS.2 _ (val67 V f hf hfb b h r j)

/-- The reference's weighted sums. -/
theorem val99 (d : Fin 64) : (show S3x32x640x64.Idx → EReal from res_main_v99 V) (ix4 b h r d)
    = sumsOf (V (Proc.devRef .tc main_arg0)) (V (Proc.devRef .tc main_arg2)) (V (Proc.devRef .tc main_arg4))
      (V (Proc.devRef .tc main_arg5)) f b h r d := by
  have hx : ∀ x : BitVec 8, (BitVec.signExtend 32 x).toInt = x.toInt := fun x =>
    BitVec.toInt_signExtend_of_le (by norm_num)
  refine (read99 V b h r d).trans ?_
  simp only [val83 V f hf hfb, hx, weight_word _ (rowCode_le _ (rowScores_le V f hfb b h r) _)]
  rfl

/-- The first result: the quantized sums. -/
theorem result1 : trunci 8 (fptosi 32 (minimumf (broadcastInDim S3x32x640x64 ![] bcast_S_S3x32x640x64 (sitofp (F := Ideal) .f32 (constantI S_ 32 127#32))) (maximumf (broadcastInDim S3x32x640x64 ![] bcast_S_S3x32x640x64 (sitofp .f32 (constantI S_ 32 4294967169#32))) (Host.roundeven (Host.divf (res_main_v99 V) (broadcastInDim S3x32x640x64 ![0, 1, 2, 3] bcast_S3x32x640x1_S3x32x640x64_0_1_2_3 (broadcastInDim S3x32x640x1 ![0, 1, 2] bcast_S3x32x640_S3x32x640x1_0_1_2 (res_main_v106 V)))))))) natLt_8_32
    = quantized (V (Proc.devRef .tc main_arg0)) (V (Proc.devRef .tc main_arg2)) (V (Proc.devRef .tc main_arg4))
      (V (Proc.devRef .tc main_arg5)) f := by
  funext y
  obtain ⟨b, h, r, d, rfl⟩ : ∃ b h r d, y = ix4 b h r d := ⟨_, _, _, _, eq_ix4 y⟩
  refine (quant_read b h r _ _ d).trans ?_
  have h106 := read106 V b h r
  simp only [val99 V f hf hfb] at h106
  have hs : (show S3x32x640.Idx → EReal from res_main_v106 V) (ix3 b h r) = scaleOf (sumsOf (V (Proc.devRef .tc main_arg0)) (V (Proc.devRef .tc main_arg2))
      (V (Proc.devRef .tc main_arg4)) (V (Proc.devRef .tc main_arg5)) f b h r) := h106
  rw [hs, val99 V f hf hfb]
  have hm : (((-127 : ℤ) : ℝ) : EReal) ≤ (((127 : ℤ) : ℝ) : EReal) := by
    rw [EReal.coe_le_coe_iff]; norm_num
  exact fptosi_narrow _ (le_min hm (le_max_left _ _)) (min_le_left _ _)

/-- The second result: the scales. -/
theorem result2 : (broadcastInDim S3x32x1x640 ![0, 1, 3] bcast_S3x32x640_S3x32x1x640_0_1_3 (res_main_v106 V) : FVec Ideal S3x32x1x640 .f32)
    = scales (V (Proc.devRef .tc main_arg0)) (V (Proc.devRef .tc main_arg2)) (V (Proc.devRef .tc main_arg4))
      (V (Proc.devRef .tc main_arg5)) f := by
  funext y
  obtain ⟨b, h, o, r, rfl⟩ : ∃ b h o r, y = ix4 b h o r := ⟨_, _, _, _, eq_ix4 y⟩
  obtain rfl : o = 0 := Subsingleton.elim _ _
  refine (scale_result_read b h r _).trans ?_
  have h106 := read106 V b h r
  simp only [val99 V f hf hfb] at h106
  exact h106

/-- The third result: the packed codes. -/
theorem result3 : trunci 8 (ori (Host.slice S3x32x640x320 ![0, 0, 0, 0] ![1, 1, 1, 2] (res_main_v83 V) slicesBy_S3x32x640x640_S3x32x640x320_0s1_0s1_0s1_0s2) (Host.shli (Host.slice S3x32x640x320 ![0, 0, 0, 1] ![1, 1, 1, 2] (res_main_v83 V) slicesBy_S3x32x640x640_S3x32x640x320_0s1_0s1_0s1_1s2) (broadcastInDim S3x32x640x320 ![] bcast_S_S3x32x640x320 (constantI S_ 32 4#32)))) natLt_8_32
    = packed (V (Proc.devRef .tc main_arg0)) (V (Proc.devRef .tc main_arg2)) f := by
  funext y
  obtain ⟨b, h, r, n, rfl⟩ : ∃ b h r n, y = ix4 b h r n := ⟨_, _, _, _, eq_ix4 y⟩
  refine (pack_read b h r _ n).trans ?_
  rw [val83 V f hf hfb, val83 V f hf hfb]
  exact pack_word _ _ (rowCode_le _ (rowScores_le V f hfb b h r) _) (rowCode_le _ (rowScores_le V f hfb b h r) _)

end Cert.Attend

end
-- ==== Proof.Fit.lean ====
/- The precondition: when every product of a query row's scale and its head's key scale has magnitude at most 128, the
   factor of every query row is a real of magnitude at most 512. -/
module

public import proofs.«01_k».proof.Pre_scores_fit
public import proofs.«01_k».proof.Proof.Result
public import proofs.«01_k».proof.Proof.Scalar

@[expose] public section

noncomputable section

namespace Cert.Attend

open Idealize.ShloMosaic Idealize.ShloMosaic.Pointwise Cert.Pre_scores_fit

/-- The shape facts the precondition states. -/
theorem fit_facts : Cert.Pre_scores_fit.Facts := ⟨by decide, by decide, by decide⟩

/-- The precondition at one query row. -/
theorem fit_read [Cert.Pre_scores_fit.Facts] (q k v : IVec S3x32x640x64 8) (qs : FVec Ideal S3x32x640 .f32)
    (ks : FVec Ideal S3x32 .f32) (vs : FVec Ideal S3x32x64 .f32)
    (hp : Cert.Pre_scores_fit.fn (F := Ideal) q qs k ks v vs = fun _ => 1#1) (b : Fin 3) (h : Fin 32) (r : Fin 640) :
    max ((show S3x32x640.Idx → EReal from qs) (ix3 b h r) * (show S3x32.Idx → EReal from ks) (ix2 b h))
      (-((show S3x32x640.Idx → EReal from qs) (ix3 b h r) * (show S3x32.Idx → EReal from ks) (ix2 b h)))
      ≤ Ideal.ofBits .f32 0x43000000#32 := by
  have e := congrFun hp (ix3 b h r)
  unfold Cert.Pre_scores_fit.fn at e
  pointwise at e
  have hd : ∀ (P : Prop) [Decidable P], BitVec.ofBool (decide P) = 1#1 → P := fun P _ hP => by
    by_contra hn
    simp [hn] at hP
  exact hd _ e

/-- Under the precondition every factor is a real of magnitude at most 512. -/
theorem fit [Cert.Pre_scores_fit.Facts] (q k v : IVec S3x32x640x64 8) (qs : FVec Ideal S3x32x640 .f32)
    (ks : FVec Ideal S3x32 .f32) (vs : FVec Ideal S3x32x64 .f32)
    (hp : Cert.Pre_scores_fit.fn (F := Ideal) q qs k ks v vs = fun _ => 1#1) :
    ∃ f : Fin 3 → Fin 32 → Fin 640 → ℝ, (∀ b h r, rowFactor qs ks b h r = ((f b h r : ℝ) : EReal)) ∧ ∀ b h r, |f b h r| ≤ 512 := by
  have key : ∀ b h r, ∃ x : ℝ, rowFactor qs ks b h r = (x : EReal) ∧ |x| ≤ 512 := by
    intro b h r
    have e := fit_read q k v qs ks vs hp b h r
    unfold rowFactor
    rw [c_128] at e
    rw [c_four]
    generalize (show S3x32x640.Idx → EReal from qs) (ix3 b h r) * (show S3x32.Idx → EReal from ks) (ix2 b h) = p at e
    induction p using EReal.rec with
    | bot => exact absurd e (by simp)
    | top => exact absurd e (by simp)
    | coe x =>
      refine ⟨x * 4, (EReal.coe_mul _ _).symm, ?_⟩
      have h1 : x ≤ 128 := by exact_mod_cast (le_max_left _ _).trans e
      have h2 : -x ≤ 128 := by exact_mod_cast (le_max_right _ _).trans e
      rw [abs_le]
      constructor <;> linarith
  choose f hf using key
  exact ⟨f, fun b h r => (hf b h r).1, fun b h r => (hf b h r).2⟩

end Cert.Attend

end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Array
public import proofs.«01_k».proof.Proof.Reference
public import proofs.«01_k».proof.Proof.Fit
public import Idealize.ShloMosaic.Lib.Bf16Pair

@[expose] public section

noncomputable section

namespace Cert.Proof

open Idealize.ShloMosaic Idealize.SL.Sem

/-- The kernel runs, its arguments end unchanged and its counters at zero. -/
theorem frame_p : Cert.quiescent_Kernel (hKernel := Cert.Kernel.Gen.facts) := fun m g _ => Cert.Kernel.Gen.frame m g

/-- So does its ideal form. -/
theorem frame_pi : Cert.quiescent_KernelIdeal (hKernelIdeal := Cert.KernelIdeal.Gen.facts) := fun m g _ =>
  Cert.KernelIdeal.Gen.frame m g

/-- So does the reference, which has no counter. -/
theorem frame_ri : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The ideal form is the kernel's: the one rule's statement at its shapes. -/
theorem preserves : Cert.preserves_Kernel_KernelIdeal := IdealRules.bf16_pair.statement _ _

/-- The kernel's results are the reference's: both are the functions of the arguments that Result defines. -/
theorem algebraic : Cert.algebraic_KernelIdeal_ReferenceIdeal_pre_scores_fit (hKernelIdeal := Cert.KernelIdeal.Gen.facts)
    (hReferenceIdeal := Cert.ReferenceIdeal.Gen.facts) (hPre_scores_fit := Cert.Attend.fit_facts) := by
  intro m g m' g' hpre hargs
  have := Cert.Attend.fit_facts
  have key : ∀ c : Dev Cert.KernelIdeal.nD, ∃ f : Fin 3 → Fin 32 → Fin 640 → ℝ,
      (∀ b h r, Cert.Attend.rowFactor (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) b h r = ((f b h r : ℝ) : EReal))
      ∧ ∀ b h r, |f b h r| ≤ 512 := fun c => Cert.Attend.fit _ _ _ _ _ _ (hpre c)
  choose f hf hfb using key
  refine ⟨fun c => Cert.Attend.quantized (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (f c),
    fun c => Cert.Attend.scales (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (f c),
    fun c => Cert.Attend.packed (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (f c), ?_, ?_⟩
  · refine (θ_run (Cert.KernelIdeal.defs (F := Ideal)) _ _).mono (fun r h c => ?_) (Cert.KernelIdeal.Value.run_blocks (F := Ideal) m g)
    obtain ⟨h6, h7, h8, hk⟩ := h c
    exact ⟨h6.trans (Cert.Attend.array6 m c (f c) (hf c) (hfb c)), h7.trans (Cert.Attend.array7 m c (f c) (hf c) (hfb c)),
      h8.trans (Cert.Attend.array8 m c (f c) (hf c) (hfb c)), hk⟩
  · refine (θ_run (Cert.ReferenceIdeal.defs (F := Ideal)) _ _).mono (fun r h c => ?_) (Cert.ReferenceIdeal.Value.run (F := Ideal) m' g')
    obtain ⟨h1, h2, h3, hk⟩ := h c
    obtain ⟨a0, a1, a2, a3, a4, a5⟩ := hargs c
    have hf' : ∀ b h r, Cert.Attend.rowFactor
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3)) b h r = ((f c b h r : ℝ) : EReal) := by
      rw [a1, a3]; exact hf c
    refine ⟨h1.trans ((Cert.Attend.result1 (StableHlo.launchContents m' c) (f c) hf' (hfb c)).trans ?_),
      h2.trans ((Cert.Attend.result2 (StableHlo.launchContents m' c) (f c) hf' (hfb c)).trans ?_),
      h3.trans ((Cert.Attend.result3 (StableHlo.launchContents m' c) (f c) hf' (hfb c)).trans ?_), hk⟩
    · exact Cert.Attend.quantized_congr (f c) a0 a2 a4 a5
    · exact Cert.Attend.scales_congr (f c) a0 a2 a4 a5
    · exact Cert.Attend.packed_congr (f c) a0 a2

theorem claim : Cert.Claim :=
  ⟨Cert.Kernel.Gen.facts, Cert.KernelIdeal.Gen.facts, Cert.ReferenceIdeal.Gen.facts, Cert.Attend.fit_facts,
    frame_p, frame_pi, fun m g _ => frame_pi m g trivial, frame_ri, fun m g _ => frame_ri m g trivial, preserves, algebraic⟩

end Cert.Proof

end
